-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite34 [hPre_finite34 : Cert.Pre_finite34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite34 [hPre_finite34 : Cert.Pre_finite34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Kernel34Ideal_pre_finite34 [hKernel34Ideal : Cert.Kernel34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Reference34Ideal_pre_finite34 [hReference34Ideal : Cert.Reference34Ideal.Facts] [hPre_finite34 : Cert.Pre_finite34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v53) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_v44) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_v21) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v16) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v55) = v0 c
          ∧ r.2.mem ((c.tc : Thread Cert.Reference22Ideal.nD Cert.Reference22Ideal.τ).loc Cert.Reference22Ideal.main_v56) = v1 c
          ∧ r.2.mem ((c.tc : Thread Cert.Reference22Ideal.nD Cert.Reference22Ideal.τ).loc Cert.Reference22Ideal.main_v57) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_v28) = v1 c
          ∧ r.2.mem ((c.tc : Thread Cert.Reference25Ideal.nD Cert.Reference25Ideal.τ).loc Cert.Reference25Ideal.main_v9) = v2 c
          ∧ r.2.mem ((c.tc : Thread Cert.Reference25Ideal.nD Cert.Reference25Ideal.τ).loc Cert.Reference25Ideal.main_v15) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v28) = v1 c
          ∧ r.2.mem ((c.tc : Thread Cert.Reference26Ideal.nD Cert.Reference26Ideal.τ).loc Cert.Reference26Ideal.main_v9) = v2 c
          ∧ r.2.mem ((c.tc : Thread Cert.Reference26Ideal.nD Cert.Reference26Ideal.τ).loc Cert.Reference26Ideal.main_v15) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_v24) = v1 c
          ∧ r.2.mem ((c.tc : Thread Cert.Reference28Ideal.nD Cert.Reference28Ideal.τ).loc Cert.Reference28Ideal.main_v5) = v2 c
          ∧ r.2.mem ((c.tc : Thread Cert.Reference28Ideal.nD Cert.Reference28Ideal.τ).loc Cert.Reference28Ideal.main_v11) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v0) = v0 c
          ∧ r.2.mem ((c.tc : Thread Cert.Reference29Ideal.nD Cert.Reference29Ideal.τ).loc Cert.Reference29Ideal.main_v24) = v1 c
          ∧ r.2.mem ((c.tc : Thread Cert.Reference29Ideal.nD Cert.Reference29Ideal.τ).loc Cert.Reference29Ideal.main_v5) = v2 c
          ∧ r.2.mem ((c.tc : Thread Cert.Reference29Ideal.nD Cert.Reference29Ideal.τ).loc Cert.Reference29Ideal.main_v11) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v33) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v8) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal_pre_finite34 [hKernel34Ideal : Cert.Kernel34Ideal.Facts] [hReference34Ideal : Cert.Reference34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v87) = v0 c
          ∧ r.2.mem ((c.tc : Thread Cert.Reference34Ideal.nD Cert.Reference34Ideal.τ).loc Cert.Reference34Ideal.main_v88) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite12 : Cert.Pre_finite12.Facts) (hPre_finite34 : Cert.Pre_finite34.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_finite34 (hKernel34Ideal := hKernel34Ideal) (hPre_finite34 := hPre_finite34)
    ∧ quiescent_Reference34Ideal (hReference34Ideal := hReference34Ideal)
    ∧ quiescent_Reference34Ideal_pre_finite34 (hReference34Ideal := hReference34Ideal) (hPre_finite34 := hPre_finite34)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_finite34 (hKernel34Ideal := hKernel34Ideal) (hReference34Ideal := hReference34Ideal) (hPre_finite34 := hPre_finite34)
-- ==== Pre_finite12.lean ====
abbrev S8192x1024 : Shape := ⟨2, ![8192, 1024]⟩
abbrev S4x704x1024 : Shape := ⟨3, ![4, 704, 1024]⟩
abbrev S4x8192x704 : Shape := ⟨3, ![4, 8192, 704]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S4x704x1024 : S_.BroadcastsInDim S4x704x1024 (![] : Fin 0 → Fin S4x704x1024.rank)
  reducesTo_S4x704x1024_S_d0_1_2 : S4x704x1024.ReducesTo [0, 1, 2] S_
  bcast_S_S4x8192x704 : S_.BroadcastsInDim S4x8192x704 (![] : Fin 0 → Fin S4x8192x704.rank)
  reducesTo_S4x8192x704_S_d0_1_2 : S4x8192x704.ReducesTo [0, 1, 2] S_

variable [Facts]

def fn_part1 {F : FTy → Type} [FloatOps F] (main_v13 : IVec S_ 1) (main_v14 : FVec F S4x8192x704 .f32) (main_v16 : IVec S4x8192x704 1) : IVec S_ 1 :=
  let main_cst_5 : FVec F S_ .f32 := constant S_ .f32 0xFF800000#32
  let main_v17 : FVec F S4x8192x704 .f32 := broadcastInDim S4x8192x704 ![] bcast_S_S4x8192x704 main_cst_5
  let main_v18 : IVec S4x8192x704 1 := cmpf .ogt main_v14 main_v17
  let main_v19 : IVec S4x8192x704 1 := andi main_v16 main_v18
  let main_c_6 : IVec S_ 1 := constantI S_ 1 1#1
  let main_v20 : IVec S_ 1 := (fun x v => Host.reduce IntOp.andi x v reducesTo_S4x8192x704_S_d0_1_2 h_S_) main_v19 main_c_6
  let main_v21 : IVec S_ 1 := andi main_v13 main_v20
  main_v21

def fn {F : FTy → Type} [FloatOps F] (main_arg0 : FVec F S8192x1024 .f32) (main_arg1 : FVec F S4x704x1024 .bf16) (main_arg2 : FVec F S4x8192x704 .bf16) (main_arg3 : FVec F S4x8192x704 .bf16) : IVec S_ 1 :=
  let main_cst : FVec F S_ .f32 := constant S_ .f32 0x7F800000#32
  let main_v0 : FVec F S8192x1024 .f32 := broadcastInDim S8192x1024 ![] bcast_S_S8192x1024 main_cst
  let main_v1 : IVec S8192x1024 1 := cmpf .olt main_arg0 main_v0
  let main_cst_0 : FVec F S_ .f32 := constant S_ .f32 0xFF800000#32
  let main_v2 : FVec F S8192x1024 .f32 := broadcastInDim S8192x1024 ![] bcast_S_S8192x1024 main_cst_0
  let main_v3 : IVec S8192x1024 1 := cmpf .ogt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_v6 : FVec F S4x704x1024 .f32 := (extf .f32 · bitsLt_bf16_f32) main_arg1
  let main_cst_1 : FVec F S_ .f32 := constant S_ .f32 0x7F800000#32
  let main_v7 : FVec F S4x704x1024 .f32 := broadcastInDim S4x704x1024 ![] bcast_S_S4x704x1024 main_cst_1
  let main_v8 : IVec S4x704x1024 1 := cmpf .olt main_v6 main_v7
  let main_cst_2 : FVec F S_ .f32 := constant S_ .f32 0xFF800000#32
  let main_v9 : FVec F S4x704x1024 .f32 := broadcastInDim S4x704x1024 ![] bcast_S_S4x704x1024 main_cst_2
  let main_v10 : IVec S4x704x1024 1 := cmpf .ogt main_v6 main_v9
  let main_v11 : IVec S4x704x1024 1 := andi main_v8 main_v10
  let main_c_3 : IVec S_ 1 := constantI S_ 1 1#1
  let main_v12 : IVec S_ 1 := (fun x v => Host.reduce IntOp.andi x v reducesTo_S4x704x1024_S_d0_1_2 h_S_) main_v11 main_c_3
  let main_v13 : IVec S_ 1 := andi main_v5 main_v12
  let main_v14 : FVec F S4x8192x704 .f32 := (extf .f32 · bitsLt_bf16_f32) main_arg3
  let main_cst_4 : FVec F S_ .f32 := constant S_ .f32 0x7F800000#32
  let main_v15 : FVec F S4x8192x704 .f32 := broadcastInDim S4x8192x704 ![] bcast_S_S4x8192x704 main_cst_4
  let main_v16 : IVec S4x8192x704 1 := cmpf .olt main_v14 main_v15
  fn_part1 (F := F) main_v13 main_v14 main_v16
-- ==== Pre_finite34.lean ====
abbrev S8192x6912 : Shape := ⟨2, ![8192, 6912]⟩
abbrev S16x1536 : Shape := ⟨2, ![16, 1536]⟩
abbrev S8192x1536 : Shape := ⟨2, ![8192, 1536]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel

variable [Facts]

def fn {F : FTy → Type} [FloatOps F] (main_arg0 : FVec F S8192x6912 .bf16) (main_arg1 : FVec F S16x1536 .f32) (main_arg2 : FVec F S8192x1536 .f32) (main_arg3 : FVec F S8192x6912 .bf16) : IVec S_ 1 :=
  let main_cst : FVec F S_ .f32 := constant S_ .f32 0x7F800000#32
  let main_v0 : FVec F S8192x1536 .f32 := broadcastInDim S8192x1536 ![] bcast_S_S8192x1536 main_cst
  let main_v1 : IVec S8192x1536 1 := cmpf .olt main_arg2 main_v0
  let main_cst_0 : FVec F S_ .f32 := constant S_ .f32 0xFF800000#32
  let main_v2 : FVec F S8192x1536 .f32 := broadcastInDim S8192x1536 ![] bcast_S_S8192x1536 main_cst_0
  let main_v3 : IVec S8192x1536 1 := cmpf .ogt main_arg2 main_v2
  let main_v4 : IVec S8192x1536 1 := andi main_v1 main_v3
  let main_c : IVec S_ 1 := constantI S_ 1 1#1
  let main_v5 : IVec S_ 1 := (fun x v => Host.reduce IntOp.andi x v reducesTo_S8192x1536_S_d0_1 h_S_) main_v4 main_c
  main_v5
-- ==== Kernel.lean ====
abbrev S8192x512 : Shape := ⟨2, ![8192, 512]⟩
abbrev S8192x6912 : Shape := ⟨2, ![8192, 6912]⟩
abbrev S3x512x1024 : Shape := ⟨3, ![3, 512, 1024]⟩
abbrev S8192x1024 : Shape := ⟨2, ![8192, 1024]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6912, .bf16⟩
  | .hbm, ⟨4, _⟩ => ⟨S3x512x1024, .bf16⟩
  | .hbm, ⟨5, _⟩ => ⟨S8192x1024, .f32⟩
  | .hbm, ⟨6, _⟩ => ⟨S8192x6912, .bf16⟩
  | .hbm, ⟨7, _⟩ => ⟨S8192x6912, .bf16⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S3x512x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S3x512x1024, .bf16⟩
  | .local _ .vmem, ⟨9, _⟩ => ⟨S512x1024, .f32⟩
  | .local _ .vmem, ⟨10, _⟩ => ⟨S512x1024, .f32⟩
  | .local _ .vmem, ⟨11, _⟩ => ⟨S512x3072, .bf16⟩
  | .local _ .vmem, ⟨12, _⟩ => ⟨S512x3072, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S3x512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x512 : Shape := ⟨2, ![8192, 512]⟩
abbrev S8192x6912 : Shape := ⟨2, ![8192, 6912]⟩
abbrev S3x512x1024 : Shape := ⟨3, ![3, 512, 1024]⟩
abbrev S8192x1024 : Shape := ⟨2, ![8192, 1024]⟩
abbrev S8192x3072 : Shape := ⟨2, ![8192, 3072]⟩
abbrev S1x8192x512 : Shape := ⟨3, ![1, 8192, 512]⟩
abbrev S1x8192x3072 : Shape := ⟨3, ![1, 8192, 3072]⟩
abbrev S1x1x8192x512 : Shape := ⟨4, ![1, 1, 8192, 512]⟩
abbrev S3x1x8192x512 : Shape := ⟨4, ![3, 1, 8192, 512]⟩
abbrev S3x1x8192x1024 : Shape := ⟨4, ![3, 1, 8192, 1024]⟩
abbrev S1x8192x3x1024 : Shape := ⟨4, ![1, 8192, 3, 1024]⟩
abbrev S_ : Shape := ⟨0, ![]⟩
abbrev S1x8192x1024 : Shape := ⟨3, ![1, 8192, 1024]⟩
abbrev S3x1024x512 : Shape := ⟨3, ![3, 1024, 512]⟩
abbrev S8192x768 : Shape := ⟨2, ![8192, 768]⟩

abbrev nBuf : Space → Nat
  | .hbm => 65
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6912, .bf16⟩
  | .hbm, ⟨4, _⟩ => ⟨S3x512x1024, .bf16⟩
  | .hbm, ⟨5, _⟩ => ⟨S8192x1024, .f32⟩
  | .hbm, ⟨6, _⟩ => ⟨S8192x6912, .bf16⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S3x512x1024, .f32⟩
  | .hbm, ⟨11, _⟩ => ⟨S8192x3072, .bf16⟩
  | .hbm, ⟨12, _⟩ => ⟨S8192x3072, .f32⟩
  | .hbm, ⟨13, _⟩ => ⟨S1x8192x512, .f32⟩
  | .hbm, ⟨14, _⟩ => ⟨S1x8192x512, .f32⟩
  | .hbm, ⟨15, _⟩ => ⟨S1x8192x512, .f32⟩
  | .hbm, ⟨16, _⟩ => ⟨S1x8192x3072, .f32⟩
  | .hbm, ⟨17, _⟩ => ⟨S1x1x8192x512, .f32⟩
  | .hbm, ⟨18, _⟩ => ⟨S1x1x8192x512, .f32⟩
  | .hbm, ⟨19, _⟩ => ⟨S1x1x8192x512, .f32⟩
  | .hbm, ⟨20, _⟩ => ⟨S3x1x8192x512, .f32⟩
  | .hbm, ⟨21, _⟩ => ⟨S3x1x8192x1024, .f32⟩
  | .hbm, ⟨22, _⟩ => ⟨S1x8192x3x1024, .f32⟩
  | .hbm, ⟨23, _⟩ => ⟨S1x8192x3x1024, .f32⟩
  | .hbm, ⟨24, _⟩ => ⟨S1x8192x3x1024, .f32⟩
  | .hbm, ⟨25, _⟩ => ⟨S_, .f32⟩
  | .hbm, ⟨26, _⟩ => ⟨S1x8192x3x1024, .f32⟩
  | .hbm, ⟨27, _⟩ => ⟨S1x8192x3x1024, .f32⟩
  | .hbm, ⟨28, _⟩ => ⟨S_, .f32⟩
  | .hbm, ⟨29, _⟩ => ⟨S1x8192x3x1024, .f32⟩
  | .hbm, ⟨30, _⟩ => ⟨S1x8192x3x1024, .f32⟩
  | .hbm, ⟨31, _⟩ => ⟨S_, .f32⟩
  | .hbm, ⟨32, _⟩ => ⟨S1x8192x3x1024, .f32⟩
  | .hbm, ⟨33, _⟩ => ⟨S1x8192x3x1024, .f32⟩
  | .hbm, ⟨34, _⟩ => ⟨S1x8192x3x1024, .f32⟩
  | .hbm, ⟨35, _⟩ => ⟨S1x8192x3x1024, .f32⟩
  | .hbm, ⟨36, _⟩ => ⟨S1x8192x3x1024, .f32⟩
  | .hbm, ⟨37, _⟩ => ⟨S_, .f32⟩
  | .hbm, ⟨38, _⟩ => ⟨S1x8192x1024, .f32⟩
  | .hbm, ⟨39, _⟩ => ⟨S1x8192x1024, .f32⟩
  | .hbm, ⟨40, _⟩ => ⟨S1x8192x3x1024, .f32⟩
  | .hbm, ⟨41, _⟩ => ⟨S1x8192x3x1024, .f32⟩
  | .hbm, ⟨42, _⟩ => ⟨S1x8192x3x1024, .f32⟩
  | .hbm, ⟨43, _⟩ => ⟨S3x1x8192x1024, .f32⟩
  | .hbm, ⟨44, _⟩ => ⟨S1x8192x3x1024, .f32⟩
  | .hbm, ⟨45, _⟩ => ⟨S1x8192x3072, .f32⟩
  | .hbm, ⟨46, _⟩ => ⟨S3x1024x512, .f32⟩
  | .hbm, ⟨47, _⟩ => ⟨S3x512x1024, .f32⟩
  | .hbm, ⟨48, _⟩ => ⟨S3x1x8192x512, .f32⟩
  | .hbm, ⟨49, _⟩ => ⟨S1x1x8192x512, .f32⟩
  | .hbm, ⟨50, _⟩ => ⟨S1x8192x512, .f32⟩
  | .hbm, ⟨51, _⟩ => ⟨S1x1x8192x512, .f32⟩
  | .hbm, ⟨52, _⟩ => ⟨S1x8192x512, .f32⟩
  | .hbm, ⟨53, _⟩ => ⟨S1x1x8192x512, .f32⟩
  | .hbm, ⟨54, _⟩ => ⟨S1x8192x512, .f32⟩
  | .hbm, ⟨55, _⟩ => ⟨S8192x3072, .bf16⟩
  | .hbm, ⟨56, _⟩ => ⟨S8192x3072, .f32⟩
  | .hbm, ⟨57, _⟩ => ⟨S8192x3072, .f32⟩
  | .hbm, ⟨58, _⟩ => ⟨S8192x768, .bf16⟩
  | .hbm, ⟨59, _⟩ => ⟨S8192x768, .f32⟩
  | .hbm, ⟨60, _⟩ => ⟨S8192x6912, .f32⟩
  | .hbm, ⟨61, _⟩ => ⟨S8192x6912, .bf16⟩
  | .hbm, ⟨62, _⟩ => ⟨S8192x512, .f32⟩
  | .hbm, ⟨63, _⟩ => ⟨S8192x512, .f32⟩
  | .hbm, ⟨64, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Kernel2.lean ====
abbrev S8192x1024 : Shape := ⟨2, ![8192, 1024]⟩
abbrev S8192x6912 : Shape := ⟨2, ![8192, 6912]⟩
abbrev S1024x6912 : Shape := ⟨2, ![1024, 6912]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S1024x6912, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x6912 : Shape := ⟨2, ![8192, 6912]⟩
abbrev S1x8192x1024 : Shape := ⟨3, ![1, 8192, 1024]⟩
abbrev S1x8192x6912 : Shape := ⟨3, ![1, 8192, 6912]⟩
abbrev S_ : Shape := ⟨0, ![]⟩
abbrev S1024x6912 : Shape := ⟨2, ![1024, 6912]⟩
abbrev S6912x1024 : Shape := ⟨2, ![6912, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6912, .bf16⟩
  | .hbm, ⟨2, _⟩ => ⟨S8192x1024, .f32⟩
  | .hbm, ⟨3, _⟩ => ⟨S1x8192x1024, .f32⟩
  | .hbm, ⟨4, _⟩ => ⟨S8192x6912, .f32⟩
  | .hbm, ⟨5, _⟩ => ⟨S1x8192x6912, .f32⟩
  | .hbm, ⟨6, _⟩ => ⟨S_, .f32⟩
  | .hbm, ⟨7, _⟩ => ⟨S1024x6912, .f32⟩
  | .hbm, ⟨8, _⟩ => ⟨S1x8192x6912, .f32⟩
  | .hbm, ⟨9, _⟩ => ⟨S6912x1024, .f32⟩
  | .hbm, ⟨10, _⟩ => ⟨S1024x6912, .f32⟩
  | .hbm, ⟨11, _⟩ => ⟨S1024x6912, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x6912 : Shape := ⟨2, ![8192, 6912]⟩
abbrev S1024x6912 : Shape := ⟨2, ![1024, 6912]⟩
abbrev S8192x1024 : Shape := ⟨2, ![8192, 1024]⟩
abbrev S1024x2304 : Shape := ⟨2, ![1024, 2304]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S8192x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x2304, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x6912 : Shape := ⟨2, ![8192, 6912]⟩
abbrev S1024x6912 : Shape := ⟨2, ![1024, 6912]⟩
abbrev S1x8192x6912 : Shape := ⟨3, ![1, 8192, 6912]⟩
abbrev S_ : Shape := ⟨0, ![]⟩
abbrev S1x8192x1024 : Shape := ⟨3, ![1, 8192, 1024]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S1024x6912, .bf16⟩
  | .hbm, ⟨2, _⟩ => ⟨S1024x6912, .f32⟩
  | .hbm, ⟨3, _⟩ => ⟨S8192x6912, .f32⟩
  | .hbm, ⟨4, _⟩ => ⟨S1x8192x6912, .f32⟩
  | .hbm, ⟨5, _⟩ => ⟨S_, .f32⟩
  | .hbm, ⟨6, _⟩ => ⟨S1x8192x1024, .f32⟩
  | .hbm, ⟨7, _⟩ => ⟨S1x8192x6912, .f32⟩
  | .hbm, ⟨8, _⟩ => ⟨S1x8192x1024, .f32⟩
  | .hbm, ⟨9, _⟩ => ⟨S8192x1024, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S4x8192x704 : Shape := ⟨3, ![4, 8192, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S4x8192x704 : Shape := ⟨3, ![4, 8192, 704]⟩
abbrev S1x8192x1024 : Shape := ⟨3, ![1, 8192, 1024]⟩
abbrev S8192x4x704 : Shape := ⟨3, ![8192, 4, 704]⟩
abbrev S1x8192x2816 : Shape := ⟨3, ![1, 8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S8192x1024, .f32⟩
  | .hbm, ⟨3, _⟩ => ⟨S1x8192x1024, .f32⟩
  | .hbm, ⟨4, _⟩ => ⟨S8192x4x704, .bf16⟩
  | .hbm, ⟨5, _⟩ => ⟨S1x8192x2816, .bf16⟩
  | .hbm, ⟨6, _⟩ => ⟨S1x8192x2816, .f32⟩
  | .hbm, ⟨7, _⟩ => ⟨S_, .f32⟩
  | .hbm, ⟨8, _⟩ => ⟨S1024x2816, .f32⟩
  | .hbm, ⟨9, _⟩ => ⟨S1x8192x2816, .f32⟩
  | .hbm, ⟨10, _⟩ => ⟨S2816x1024, .f32⟩
  | .hbm, ⟨11, _⟩ => ⟨S1024x2816, .f32⟩
  | .hbm, ⟨12, _⟩ => ⟨S1024x4x704, .f32⟩
  | .hbm, ⟨13, _⟩ => ⟨S4x1024x704, .f32⟩
  | .hbm, ⟨14, _⟩ => ⟨S4x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S4x8192x704 : Shape := ⟨3, ![4, 8192, 704]⟩
abbrev S4x1024x704 : Shape := ⟨3, ![4, 1024, 704]⟩
abbrev S8192x1024 : Shape := ⟨2, ![8192, 1024]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S4x8192x704, .bf16⟩
  | .hbm, ⟨1, _⟩ => ⟨S4x1024x704, .bf16⟩
  | .hbm, ⟨2, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x1024x704, .bf16⟩
  | .local _ .vmem, ⟨3, _⟩ => ⟨S1024x1024, .f32⟩
  | .local _ .vmem, ⟨4, _⟩ => ⟨S1024x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4x8192x704 : Shape := ⟨3, ![4, 8192, 704]⟩
abbrev S4x1024x704 : Shape := ⟨3, ![4, 1024, 704]⟩
abbrev S1024x4x704 : Shape := ⟨3, ![1024, 4, 704]⟩
abbrev S1024x2816 : Shape := ⟨2, ![1024, 2816]⟩
abbrev S8192x4x704 : Shape := ⟨3, ![8192, 4, 704]⟩
abbrev S8192x2816 : Shape := ⟨2, ![8192, 2816]⟩
abbrev S1x8192x2816 : Shape := ⟨3, ![1, 8192, 2816]⟩
abbrev S_ : Shape := ⟨0, ![]⟩
abbrev S1x8192x1024 : Shape := ⟨3, ![1, 8192, 1024]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x1024x704, .bf16⟩
  | .hbm, ⟨2, _⟩ => ⟨S1024x4x704, .bf16⟩
  | .hbm, ⟨3, _⟩ => ⟨S1024x2816, .bf16⟩
  | .hbm, ⟨4, _⟩ => ⟨S1024x2816, .f32⟩
  | .hbm, ⟨5, _⟩ => ⟨S8192x4x704, .bf16⟩
  | .hbm, ⟨6, _⟩ => ⟨S8192x2816, .bf16⟩
  | .hbm, ⟨7, _⟩ => ⟨S8192x2816, .f32⟩
  | .hbm, ⟨8, _⟩ => ⟨S1x8192x2816, .f32⟩
  | .hbm, ⟨9, _⟩ => ⟨S_, .f32⟩
  | .hbm, ⟨10, _⟩ => ⟨S1x8192x1024, .f32⟩
  | .hbm, ⟨11, _⟩ => ⟨S1x8192x2816, .f32⟩
  | .hbm, ⟨12, _⟩ => ⟨S1x8192x1024, .f32⟩
  | .hbm, ⟨13, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel6.lean ====
abbrev S4x8192x704 : Shape := ⟨3, ![4, 8192, 704]⟩
abbrev S4x1024x704 : Shape := ⟨3, ![4, 1024, 704]⟩
abbrev S8192x1024 : Shape := ⟨2, ![8192, 1024]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S4x1024x704, .bf16⟩
  | .hbm, ⟨2, _⟩ => ⟨S8192x1024, .f32⟩
  | .hbm, ⟨3, _⟩ => ⟨S8192x1024, .bf16⟩
  | .local _ .vmem, ⟨0, _⟩ => ⟨S4x1024x704, .bf16⟩
  | .local _ .vmem, ⟨1, _⟩ => ⟨S4x1024x704, .bf16⟩
  | .local _ .vmem, ⟨2, _⟩ => ⟨S4x1024x704, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4x8192x704 : Shape := ⟨3, ![4, 8192, 704]⟩
abbrev S4x1024x704 : Shape := ⟨3, ![4, 1024, 704]⟩
abbrev S8192x1024 : Shape := ⟨2, ![8192, 1024]⟩
abbrev S1024x4x704 : Shape := ⟨3, ![1024, 4, 704]⟩
abbrev S1024x2816 : Shape := ⟨2, ![1024, 2816]⟩
abbrev S8192x4x704 : Shape := ⟨3, ![8192, 4, 704]⟩
abbrev S8192x2816 : Shape := ⟨2, ![8192, 2816]⟩
abbrev S1x8192x2816 : Shape := ⟨3, ![1, 8192, 2816]⟩
abbrev S_ : Shape := ⟨0, ![]⟩
abbrev S1x8192x1024 : Shape := ⟨3, ![1, 8192, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x1024x704, .bf16⟩
  | .hbm, ⟨2, _⟩ => ⟨S8192x1024, .f32⟩
  | .hbm, ⟨3, _⟩ => ⟨S1024x4x704, .bf16⟩
  | .hbm, ⟨4, _⟩ => ⟨S1024x2816, .bf16⟩
  | .hbm, ⟨5, _⟩ => ⟨S1024x2816, .f32⟩
  | .hbm, ⟨6, _⟩ => ⟨S8192x4x704, .bf16⟩
  | .hbm, ⟨7, _⟩ => ⟨S8192x2816, .bf16⟩
  | .hbm, ⟨8, _⟩ => ⟨S8192x2816, .f32⟩
  | .hbm, ⟨9, _⟩ => ⟨S1x8192x2816, .f32⟩
  | .hbm, ⟨10, _⟩ => ⟨S_, .f32⟩
  | .hbm, ⟨11, _⟩ => ⟨S1x8192x1024, .f32⟩
  | .hbm, ⟨12, _⟩ => ⟨S1x8192x2816, .f32⟩
  | .hbm, ⟨13, _⟩ => ⟨S1x8192x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel7.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x512 : Shape := ⟨2, ![2048, 512]⟩
abbrev S1x704x512 : Shape := ⟨3, ![1, 704, 512]⟩
abbrev S704x512 : Shape := ⟨2, ![704, 512]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x512, .f32⟩
  | .local _ .vmem, ⟨3, _⟩ => ⟨S2048x512, .f32⟩
  | .local _ .vmem, ⟨4, _⟩ => ⟨S1x704x512, .bf16⟩
  | .local _ .vmem, ⟨5, _⟩ => ⟨S1x704x512, .bf16⟩
  | .local _ .vmem, ⟨6, _⟩ => ⟨S704x512, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S1x8192x2816 : Shape := ⟨3, ![1, 8192, 2816]⟩
abbrev S1x8192x1024 : Shape := ⟨3, ![1, 8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .f32⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S1x8192x2816, .f32⟩
  | .hbm, ⟨6, _⟩ => ⟨S1x8192x1024, .f32⟩
  | .hbm, ⟨7, _⟩ => ⟨S_, .f32⟩
  | .hbm, ⟨8, _⟩ => ⟨S2816x1024, .f32⟩
  | .hbm, ⟨9, _⟩ => ⟨S1x8192x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S1x8192x1024 : Shape := ⟨3, ![1, 8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S1x8192x1024, .f32⟩
  | .hbm, ⟨4, _⟩ => ⟨S_, .f32⟩
  | .hbm, ⟨5, _⟩ => ⟨S1x8192x1024, .f32⟩
  | .hbm, ⟨6, _⟩ => ⟨S1x8192x1024, .f32⟩
  | .hbm, ⟨7, _⟩ => ⟨S1x8192x1024, .f32⟩
  | .hbm, ⟨8, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1x8192x1024 : Shape := ⟨3, ![1, 8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1024x1024, .f32⟩
  | .hbm, ⟨7, _⟩ => ⟨S1x8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S8192x1024 : Shape := ⟨2, ![8192, 1024]⟩
abbrev S1x1024 : Shape := ⟨2, ![1, 1024]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S8192x1024, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S8192x1024, .f32⟩
  | .hbm, ⟨57, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel12.lean ====
abbrev S8192x1024 : Shape := ⟨2, ![8192, 1024]⟩
abbrev S4x704x1024 : Shape := ⟨3, ![4, 704, 1024]⟩
abbrev S4x8192x704 : Shape := ⟨3, ![4, 8192, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4x704x1024, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S8192x1024 : Shape := ⟨2, ![8192, 1024]⟩
abbrev S4x704x1024 : Shape := ⟨3, ![4, 704, 1024]⟩
abbrev S4x8192x704 : Shape := ⟨3, ![4, 8192, 704]⟩
abbrev S2816x1024 : Shape := ⟨2, ![2816, 1024]⟩
abbrev S8192x4x704 : Shape := ⟨3, ![8192, 4, 704]⟩
abbrev S8192x2816 : Shape := ⟨2, ![8192, 2816]⟩
abbrev S1x8192x2816 : Shape := ⟨3, ![1, 8192, 2816]⟩
abbrev S_ : Shape := ⟨0, ![]⟩
abbrev S1x8192x1024 : Shape := ⟨3, ![1, 8192, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x704x1024, .bf16⟩
  | .hbm, ⟨2, _⟩ => ⟨S4x8192x704, .bf16⟩
  | .hbm, ⟨3, _⟩ => ⟨S4x8192x704, .bf16⟩
  | .hbm, ⟨4, _⟩ => ⟨S2816x1024, .bf16⟩
  | .hbm, ⟨5, _⟩ => ⟨S2816x1024, .f32⟩
  | .hbm, ⟨6, _⟩ => ⟨S8192x4x704, .bf16⟩
  | .hbm, ⟨7, _⟩ => ⟨S8192x2816, .bf16⟩
  | .hbm, ⟨8, _⟩ => ⟨S8192x2816, .f32⟩
  | .hbm, ⟨9, _⟩ => ⟨S1x8192x2816, .f32⟩
  | .hbm, ⟨10, _⟩ => ⟨S8192x4x704, .bf16⟩
  | .hbm, ⟨11, _⟩ => ⟨S8192x2816, .bf16⟩
  | .hbm, ⟨12, _⟩ => ⟨S8192x2816, .f32⟩
  | .hbm, ⟨13, _⟩ => ⟨S1x8192x2816, .f32⟩
  | .hbm, ⟨14, _⟩ => ⟨S1x8192x2816, .f32⟩
  | .hbm, ⟨15, _⟩ => ⟨S1x8192x2816, .f32⟩
  | .hbm, ⟨16, _⟩ => ⟨S_, .f32⟩
  | .hbm, ⟨17, _⟩ => ⟨S1x8192x2816, .f32⟩
  | .hbm, ⟨18, _⟩ => ⟨S1x8192x2816, .f32⟩
  | .hbm, ⟨19, _⟩ => ⟨S_, .f32⟩
  | .hbm, ⟨20, _⟩ => ⟨S1x8192x2816, .f32⟩
  | .hbm, ⟨21, _⟩ => ⟨S1x8192x2816, .f32⟩
  | .hbm, ⟨22, _⟩ => ⟨S_, .f32⟩
  | .hbm, ⟨23, _⟩ => ⟨S1x8192x2816, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x1024, .f32⟩
  | .hbm, ⟨29, _⟩ => ⟨S1x8192x1024, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S8192x2816, .f32⟩
  | .hbm, ⟨38, _⟩ => ⟨S8192x4x704, .f32⟩
  | .hbm, ⟨39, _⟩ => ⟨S4x8192x704, .f32⟩
  | .hbm, ⟨40, _⟩ => ⟨S4x8192x704, .bf16⟩
  | .hbm, ⟨41, _⟩ => ⟨S8192x2816, .f32⟩
  | .hbm, ⟨42, _⟩ => ⟨S8192x4x704, .f32⟩
  | .hbm, ⟨43, _⟩ => ⟨S4x8192x704, .f32⟩
  | .hbm, ⟨44, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v10_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v10_1 : Ref sig .tc := ⟨.hbm, 25, rfl⟩
abbrev main_v10_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel14.lean ====
abbrev S8192x1024 : Shape := ⟨2, ![8192, 1024]⟩
abbrev S1024x6912 : Shape := ⟨2, ![1024, 6912]⟩
abbrev S8192x6912 : Shape := ⟨2, ![8192, 6912]⟩
abbrev S1024x1024 : Shape := ⟨2, ![1024, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x6912, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x6912 : Shape := ⟨2, ![1024, 6912]⟩
abbrev S1x8192x1024 : Shape := ⟨3, ![1, 8192, 1024]⟩
abbrev S1x8192x6912 : Shape := ⟨3, ![1, 8192, 6912]⟩
abbrev S8192x6912 : Shape := ⟨2, ![8192, 6912]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6912, .bf16⟩
  | .hbm, ⟨2, _⟩ => ⟨S8192x1024, .f32⟩
  | .hbm, ⟨3, _⟩ => ⟨S1x8192x1024, .f32⟩
  | .hbm, ⟨4, _⟩ => ⟨S1024x6912, .f32⟩
  | .hbm, ⟨5, _⟩ => ⟨S1x8192x6912, .f32⟩
  | .hbm, ⟨6, _⟩ => ⟨S8192x6912, .f32⟩
  | .hbm, ⟨7, _⟩ => ⟨S8192x6912, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S8x1024x704 : Shape := ⟨3, ![8, 1024, 704]⟩
abbrev S4x8192x704 : Shape := ⟨3, ![4, 8192, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x8192x704, .bf16⟩
  | .hbm, ⟨3, _⟩ => ⟨S4x8192x704, .bf16⟩
  | .hbm, ⟨4, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference15Ideal.lean ====
abbrev S8192x1024 : Shape := ⟨2, ![8192, 1024]⟩
abbrev S8x1024x704 : Shape := ⟨3, ![8, 1024, 704]⟩
abbrev S1x8192x1024 : Shape := ⟨3, ![1, 8192, 1024]⟩
abbrev S1024x8x704 : Shape := ⟨3, ![1024, 8, 704]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x1024, .f32⟩
  | .hbm, ⟨3, _⟩ => ⟨S1x8192x1024, .f32⟩
  | .hbm, ⟨4, _⟩ => ⟨S1024x8x704, .bf16⟩
  | .hbm, ⟨5, _⟩ => ⟨S1024x5632, .bf16⟩
  | .hbm, ⟨6, _⟩ => ⟨S1024x5632, .f32⟩
  | .hbm, ⟨7, _⟩ => ⟨S1x8192x5632, .f32⟩
  | .hbm, ⟨8, _⟩ => ⟨S1x8192x2816, .f32⟩
  | .hbm, ⟨9, _⟩ => ⟨S1x8192x2816, .f32⟩
  | .hbm, ⟨10, _⟩ => ⟨S8192x2816, .f32⟩
  | .hbm, ⟨11, _⟩ => ⟨S8192x4x704, .f32⟩
  | .hbm, ⟨12, _⟩ => ⟨S4x8192x704, .f32⟩
  | .hbm, ⟨13, _⟩ => ⟨S4x8192x704, .bf16⟩
  | .hbm, ⟨14, _⟩ => ⟨S8192x2816, .f32⟩
  | .hbm, ⟨15, _⟩ => ⟨S8192x4x704, .f32⟩
  | .hbm, ⟨16, _⟩ => ⟨S4x8192x704, .f32⟩
  | .hbm, ⟨17, _⟩ => ⟨S4x8192x704, .bf16⟩
  | .hbm, ⟨18, _⟩ => ⟨S1x8192x2816, .f32⟩
  | .hbm, ⟨19, _⟩ => ⟨S1x8192x2816, .f32⟩
  | .hbm, ⟨20, _⟩ => ⟨S_, .f32⟩
  | .hbm, ⟨21, _⟩ => ⟨S1x8192x2816, .f32⟩
  | .hbm, ⟨22, _⟩ => ⟨S1x8192x2816, .f32⟩
  | .hbm, ⟨23, _⟩ => ⟨S_, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S8192x2816, .f32⟩
  | .hbm, ⟨29, _⟩ => ⟨S8192x4x704, .f32⟩
  | .hbm, ⟨30, _⟩ => ⟨S4x8192x704, .f32⟩
  | .hbm, ⟨31, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel16.lean ====
abbrev S4x8192x704 : Shape := ⟨3, ![4, 8192, 704]⟩
abbrev S4x704x1024 : Shape := ⟨3, ![4, 704, 1024]⟩
abbrev S8192x1024 : Shape := ⟨2, ![8192, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S8192x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4x8192x704 : Shape := ⟨3, ![4, 8192, 704]⟩
abbrev S4x704x1024 : Shape := ⟨3, ![4, 704, 1024]⟩
abbrev S8192x1024 : Shape := ⟨2, ![8192, 1024]⟩
abbrev S8192x4x704 : Shape := ⟨3, ![8192, 4, 704]⟩
abbrev S8192x2816 : Shape := ⟨2, ![8192, 2816]⟩
abbrev S1x8192x2816 : Shape := ⟨3, ![1, 8192, 2816]⟩
abbrev S2816x1024 : Shape := ⟨2, ![2816, 1024]⟩
abbrev S1x8192x1024 : Shape := ⟨3, ![1, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x704x1024, .bf16⟩
  | .hbm, ⟨2, _⟩ => ⟨S8192x1024, .f32⟩
  | .hbm, ⟨3, _⟩ => ⟨S8192x4x704, .bf16⟩
  | .hbm, ⟨4, _⟩ => ⟨S8192x2816, .bf16⟩
  | .hbm, ⟨5, _⟩ => ⟨S8192x2816, .f32⟩
  | .hbm, ⟨6, _⟩ => ⟨S1x8192x2816, .f32⟩
  | .hbm, ⟨7, _⟩ => ⟨S2816x1024, .bf16⟩
  | .hbm, ⟨8, _⟩ => ⟨S2816x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S8192x1024 : Shape := ⟨2, ![8192, 1024]⟩
abbrev S1024x1024 : Shape := ⟨2, ![1024, 1024]⟩
abbrev S1x8192x1024 : Shape := ⟨3, ![1, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x8192x1024, .f32⟩
  | .hbm, ⟨4, _⟩ => ⟨S8192x1024, .f32⟩
  | .hbm, ⟨5, _⟩ => ⟨S1x8192x1024, .f32⟩
  | .hbm, ⟨6, _⟩ => ⟨S1024x1024, .f32⟩
  | .hbm, ⟨7, _⟩ => ⟨S1x8192x1024, .f32⟩
  | .hbm, ⟨8, _⟩ => ⟨S1x8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x512 : Shape := ⟨2, ![8192, 512]⟩
abbrev S8192x6912 : Shape := ⟨2, ![8192, 6912]⟩
abbrev S3x512x1024 : Shape := ⟨3, ![3, 512, 1024]⟩
abbrev S8192x1024 : Shape := ⟨2, ![8192, 1024]⟩
abbrev S512x512 : Shape := ⟨2, ![512, 512]⟩
abbrev S512x3072 : Shape := ⟨2, ![512, 3072]⟩
abbrev S512x1024 : Shape := ⟨2, ![512, 1024]⟩
abbrev S1x512x1024 : Shape := ⟨3, ![1, 512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6912, .bf16⟩
  | .hbm, ⟨4, _⟩ => ⟨S3x512x1024, .bf16⟩
  | .hbm, ⟨5, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S3x512x1024, .bf16⟩
  | .local _ .vmem, ⟨9, _⟩ => ⟨S512x1024, .bf16⟩
  | .local _ .vmem, ⟨10, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference18Ideal.lean ====
abbrev S8192x512 : Shape := ⟨2, ![8192, 512]⟩
abbrev S8192x6912 : Shape := ⟨2, ![8192, 6912]⟩
abbrev S3x512x1024 : Shape := ⟨3, ![3, 512, 1024]⟩
abbrev S1x8192x512 : Shape := ⟨3, ![1, 8192, 512]⟩
abbrev S1x1x8192x512 : Shape := ⟨4, ![1, 1, 8192, 512]⟩
abbrev S3x1x8192x512 : Shape := ⟨4, ![3, 1, 8192, 512]⟩
abbrev S3x1x8192x1024 : Shape := ⟨4, ![3, 1, 8192, 1024]⟩
abbrev S8192x3072 : Shape := ⟨2, ![8192, 3072]⟩
abbrev S1x8192x3072 : Shape := ⟨3, ![1, 8192, 3072]⟩
abbrev S1x8192x3x1024 : Shape := ⟨4, ![1, 8192, 3, 1024]⟩
abbrev S_ : Shape := ⟨0, ![]⟩
abbrev S1x8192x1024 : Shape := ⟨3, ![1, 8192, 1024]⟩
abbrev S8192x1024 : Shape := ⟨2, ![8192, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x6912, .bf16⟩
  | .hbm, ⟨4, _⟩ => ⟨S3x512x1024, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S3x512x1024, .f32⟩
  | .hbm, ⟨9, _⟩ => ⟨S1x8192x512, .f32⟩
  | .hbm, ⟨10, _⟩ => ⟨S1x8192x512, .f32⟩
  | .hbm, ⟨11, _⟩ => ⟨S1x8192x512, .f32⟩
  | .hbm, ⟨12, _⟩ => ⟨S1x1x8192x512, .f32⟩
  | .hbm, ⟨13, _⟩ => ⟨S1x1x8192x512, .f32⟩
  | .hbm, ⟨14, _⟩ => ⟨S1x1x8192x512, .f32⟩
  | .hbm, ⟨15, _⟩ => ⟨S3x1x8192x512, .f32⟩
  | .hbm, ⟨16, _⟩ => ⟨S3x1x8192x1024, .f32⟩
  | .hbm, ⟨17, _⟩ => ⟨S8192x3072, .bf16⟩
  | .hbm, ⟨18, _⟩ => ⟨S1x8192x3072, .bf16⟩
  | .hbm, ⟨19, _⟩ => ⟨S1x8192x3072, .f32⟩
  | .hbm, ⟨20, _⟩ => ⟨S1x8192x3x1024, .f32⟩
  | .hbm, ⟨21, _⟩ => ⟨S1x8192x3x1024, .f32⟩
  | .hbm, ⟨22, _⟩ => ⟨S1x8192x3x1024, .f32⟩
  | .hbm, ⟨23, _⟩ => ⟨S_, .f32⟩
  | .hbm, ⟨24, _⟩ => ⟨S1x8192x3x1024, .f32⟩
  | .hbm, ⟨25, _⟩ => ⟨S1x8192x3x1024, .f32⟩
  | .hbm, ⟨26, _⟩ => ⟨S_, .f32⟩
  | .hbm, ⟨27, _⟩ => ⟨S1x8192x3x1024, .f32⟩
  | .hbm, ⟨28, _⟩ => ⟨S1x8192x3x1024, .f32⟩
  | .hbm, ⟨29, _⟩ => ⟨S1x8192x1024, .f32⟩
  | .hbm, ⟨30, _⟩ => ⟨S8192x1024, .f32⟩
  | .hbm, ⟨31, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel19.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S8192x1024 : Shape := ⟨2, ![8192, 1024]⟩
abbrev S1x1024 : Shape := ⟨2, ![1, 1024]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x8192x1024, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel22.lean ====
abbrev S8192x1024 : Shape := ⟨2, ![8192, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S8192x1024 : Shape := ⟨2, ![8192, 1024]⟩
abbrev S1x1024 : Shape := ⟨2, ![1, 1024]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x8192x1024, .f32⟩
  | .hbm, ⟨4, _⟩ => ⟨S1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192, .f32⟩
  | .hbm, ⟨33, _⟩ => ⟨S_, .f32⟩
  | .hbm, ⟨34, _⟩ => ⟨S1x8192, .f32⟩
  | .hbm, ⟨35, _⟩ => ⟨S1x8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x8192, .f32⟩
  | .hbm, ⟨44, _⟩ => ⟨S_, .f32⟩
  | .hbm, ⟨45, _⟩ => ⟨S1x8192, .f32⟩
  | .hbm, ⟨46, _⟩ => ⟨S1x8192, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1024, .f32⟩
  | .hbm, ⟨57, _⟩ => ⟨S1x8192x1024, .f32⟩
  | .hbm, ⟨58, _⟩ => ⟨S_, .f32⟩
  | .hbm, ⟨59, _⟩ => ⟨S1x8192, .f32⟩
  | .hbm, ⟨60, _⟩ => ⟨S1x8192x1, .f32⟩
  | .hbm, ⟨61, _⟩ => ⟨S1x8192x1024, .f32⟩
  | .hbm, ⟨62, _⟩ => ⟨S1x8192x1024, .f32⟩
  | .hbm, ⟨63, _⟩ => ⟨S1x8192x1, .f32⟩
  | .hbm, ⟨64, _⟩ => ⟨S_, .f32⟩
  | .hbm, ⟨65, _⟩ => ⟨S1x8192x1, .f32⟩
  | .hbm, ⟨66, _⟩ => ⟨S1x8192x1, .f32⟩
  | .hbm, ⟨67, _⟩ => ⟨S_, .f32⟩
  | .hbm, ⟨68, _⟩ => ⟨S8192, .f32⟩
  | .hbm, ⟨69, _⟩ => ⟨S1x8192, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x8192x1024, .f32⟩
  | .hbm, ⟨74, _⟩ => ⟨S1x8192x1024, .f32⟩
  | .hbm, ⟨75, _⟩ => ⟨S8192x1024, .f32⟩
  | .hbm, ⟨76, _⟩ => ⟨S1x1024, .f32⟩
  | .hbm, ⟨77, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Kernel23.lean ====
abbrev S2048x865 : Shape := ⟨2, ![2048, 865]⟩
abbrev S8x1024x865 : Shape := ⟨3, ![8, 1024, 865]⟩
abbrev S128x865 : Shape := ⟨2, ![128, 865]⟩
abbrev S8x128x865 : Shape := ⟨3, ![8, 128, 865]⟩
abbrev S1x128x865 : Shape := ⟨3, ![1, 128, 865]⟩

abbrev nBuf : Space → Nat
  | .hbm => 9
  | .vmem => 18
  | .smem => 0
  | _ => 0

abbrev bufTy : (tb : Table) → Fin (tcTables nBuf tb) → BufTy
  | .hbm, ⟨0, _⟩ => ⟨S2048x865, .f32⟩
  | .hbm, ⟨1, _⟩ => ⟨S2048x865, .f32⟩
  | .hbm, ⟨2, _⟩ => ⟨S2048x865, .f32⟩
  | .hbm, ⟨3, _⟩ => ⟨S8x1024x865, .bf16⟩
  | .hbm, ⟨4, _⟩ => ⟨S8x1024x865, .bf16⟩
  | .hbm, ⟨5, _⟩ => ⟨S2048x865, .f32⟩
  | .hbm, ⟨6, _⟩ => ⟨S2048x865, .f32⟩
  | .hbm, ⟨7, _⟩ => ⟨S2048x865, .f32⟩
  | .hbm, ⟨8, _⟩ => ⟨S2048x865, .f32⟩
  | .local _ .vmem, ⟨0, _⟩ => ⟨S128x865, .f32⟩
  | .local _ .vmem, ⟨1, _⟩ => ⟨S128x865, .f32⟩
  | .local _ .vmem, ⟨2, _⟩ => ⟨S128x865, .f32⟩
  | .local _ .vmem, ⟨3, _⟩ => ⟨S128x865, .f32⟩
  | .local _ .vmem, ⟨4, _⟩ => ⟨S128x865, .f32⟩
  | .local _ .vmem, ⟨5, _⟩ => ⟨S128x865, .f32⟩
  | .local _ .vmem, ⟨6, _⟩ => ⟨S8x128x865, .bf16⟩
  | .local _ .vmem, ⟨7, _⟩ => ⟨S8x128x865, .bf16⟩
  | .local _ .vmem, ⟨8, _⟩ => ⟨S8x128x865, .bf16⟩
  | .local _ .vmem, ⟨9, _⟩ => ⟨S8x128x865, .bf16⟩
  | .local _ .vmem, ⟨10, _⟩ => ⟨S128x865, .f32⟩
  | .local _ .vmem, ⟨11, _⟩ => ⟨S128x865, .f32⟩
  | .local _ .vmem, ⟨12, _⟩ => ⟨S128x865, .f32⟩
  | .local _ .vmem, ⟨13, _⟩ => ⟨S128x865, .f32⟩
  | .local _ .vmem, ⟨14, _⟩ => ⟨S128x865, .f32⟩
  | .local _ .vmem, ⟨15, _⟩ => ⟨S128x865, .f32⟩
  | .local _ .vmem, ⟨16, _⟩ => ⟨S128x865, .f32⟩
  | .local _ .vmem, ⟨17, _⟩ => ⟨S128x865, .f32⟩
  | _, _ => ⟨S2048x865, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x865 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x865 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x865 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x865 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x865 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x865 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x865 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x865 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x865 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S2048x865 : Shape := ⟨2, ![2048, 865]⟩
abbrev S8x1024x865 : Shape := ⟨3, ![8, 1024, 865]⟩
abbrev S_ : Shape := ⟨0, ![]⟩
abbrev S1024x865 : Shape := ⟨2, ![1024, 865]⟩

abbrev nBuf : Space → Nat
  | .hbm => 45
  | .vmem => 0
  | .smem => 0
  | _ => 0

abbrev bufTy : (tb : Table) → Fin (tcTables nBuf tb) → BufTy
  | .hbm, ⟨0, _⟩ => ⟨S2048x865, .f32⟩
  | .hbm, ⟨1, _⟩ => ⟨S2048x865, .f32⟩
  | .hbm, ⟨2, _⟩ => ⟨S2048x865, .f32⟩
  | .hbm, ⟨3, _⟩ => ⟨S8x1024x865, .bf16⟩
  | .hbm, ⟨4, _⟩ => ⟨S8x1024x865, .bf16⟩
  | .hbm, ⟨5, _⟩ => ⟨S8x1024x865, .f32⟩
  | .hbm, ⟨6, _⟩ => ⟨S_, .f32⟩
  | .hbm, ⟨7, _⟩ => ⟨S1024x865, .f32⟩
  | .hbm, ⟨8, _⟩ => ⟨S8x1024x865, .f32⟩
  | .hbm, ⟨9, _⟩ => ⟨S_, .f32⟩
  | .hbm, ⟨10, _⟩ => ⟨S1024x865, .f32⟩
  | .hbm, ⟨11, _⟩ => ⟨S2048x865, .f32⟩
  | .hbm, ⟨12, _⟩ => ⟨S_, .f32⟩
  | .hbm, ⟨13, _⟩ => ⟨S2048x865, .f32⟩
  | .hbm, ⟨14, _⟩ => ⟨S2048x865, .f32⟩
  | .hbm, ⟨15, _⟩ => ⟨S_, .f32⟩
  | .hbm, ⟨16, _⟩ => ⟨S2048x865, .f32⟩
  | .hbm, ⟨17, _⟩ => ⟨S2048x865, .f32⟩
  | .hbm, ⟨18, _⟩ => ⟨S2048x865, .f32⟩
  | .hbm, ⟨19, _⟩ => ⟨S_, .f32⟩
  | .hbm, ⟨20, _⟩ => ⟨S2048x865, .f32⟩
  | .hbm, ⟨21, _⟩ => ⟨S2048x865, .f32⟩
  | .hbm, ⟨22, _⟩ => ⟨S2048x865, .f32⟩
  | .hbm, ⟨23, _⟩ => ⟨S_, .f32⟩
  | .hbm, ⟨24, _⟩ => ⟨S2048x865, .f32⟩
  | .hbm, ⟨25, _⟩ => ⟨S2048x865, .f32⟩
  | .hbm, ⟨26, _⟩ => ⟨S2048x865, .f32⟩
  | .hbm, ⟨27, _⟩ => ⟨S_, .f32⟩
  | .hbm, ⟨28, _⟩ => ⟨S2048x865, .f32⟩
  | .hbm, ⟨29, _⟩ => ⟨S2048x865, .f32⟩
  | .hbm, ⟨30, _⟩ => ⟨S_, .f32⟩
  | .hbm, ⟨31, _⟩ => ⟨S2048x865, .f32⟩
  | .hbm, ⟨32, _⟩ => ⟨S2048x865, .f32⟩
  | .hbm, ⟨33, _⟩ => ⟨S2048x865, .f32⟩
  | .hbm, ⟨34, _⟩ => ⟨S_, .f32⟩
  | .hbm, ⟨35, _⟩ => ⟨S2048x865, .f32⟩
  | .hbm, ⟨36, _⟩ => ⟨S2048x865, .f32⟩
  | .hbm, ⟨37, _⟩ => ⟨S2048x865, .f32⟩
  | .hbm, ⟨38, _⟩ => ⟨S_, .f32⟩
  | .hbm, ⟨39, _⟩ => ⟨S2048x865, .f32⟩
  | .hbm, ⟨40, _⟩ => ⟨S2048x865, .f32⟩
  | .hbm, ⟨41, _⟩ => ⟨S2048x865, .f32⟩
  | .hbm, ⟨42, _⟩ => ⟨S_, .f32⟩
  | .hbm, ⟨43, _⟩ => ⟨S2048x865, .f32⟩
  | .hbm, ⟨44, _⟩ => ⟨S2048x865, .f32⟩
  | _, _ => ⟨S2048x865, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel24.lean ====
abbrev S2048x704 : Shape := ⟨2, ![2048, 704]⟩
abbrev S8x1024x704 : Shape := ⟨3, ![8, 1024, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 9
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x1024x704, .bf16⟩
  | .hbm, ⟨4, _⟩ => ⟨S8x1024x704, .bf16⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S8x128x704, .bf16⟩
  | .local _ .vmem, ⟨7, _⟩ => ⟨S8x128x704, .bf16⟩
  | .local _ .vmem, ⟨8, _⟩ => ⟨S8x128x704, .bf16⟩
  | .local _ .vmem, ⟨9, _⟩ => ⟨S8x128x704, .bf16⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | .local _ .vmem, ⟨16, _⟩ => ⟨S128x704, .f32⟩
  | .local _ .vmem, ⟨17, _⟩ => ⟨S128x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c7_i32 : BitVec 32 := 7#32
  let v2 : BitVec 32 := Scalar.select v1 c0_i32_1 c7_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c7_i32 : BitVec 32 := 7#32
  let v2 : BitVec 32 := Scalar.select v1 c0_i32 c7_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S2048x704 : Shape := ⟨2, ![2048, 704]⟩
abbrev S8x1024x704 : Shape := ⟨3, ![8, 1024, 704]⟩
abbrev S_ : Shape := ⟨0, ![]⟩
abbrev S1024x704 : Shape := ⟨2, ![1024, 704]⟩

abbrev nBuf : Space → Nat
  | .hbm => 45
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S8x1024x704, .bf16⟩
  | .hbm, ⟨4, _⟩ => ⟨S8x1024x704, .bf16⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S8x1024x704, .f32⟩
  | .hbm, ⟨9, _⟩ => ⟨S_, .f32⟩
  | .hbm, ⟨10, _⟩ => ⟨S1024x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S2048x704, .f32⟩
  | .hbm, ⟨23, _⟩ => ⟨S_, .f32⟩
  | .hbm, ⟨24, _⟩ => ⟨S2048x704, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | .hbm, ⟨37, _⟩ => ⟨S2048x704, .f32⟩
  | .hbm, ⟨38, _⟩ => ⟨S_, .f32⟩
  | .hbm, ⟨39, _⟩ => ⟨S2048x704, .f32⟩
  | .hbm, ⟨40, _⟩ => ⟨S2048x704, .f32⟩
  | .hbm, ⟨41, _⟩ => ⟨S2048x704, .f32⟩
  | .hbm, ⟨42, _⟩ => ⟨S_, .f32⟩
  | .hbm, ⟨43, _⟩ => ⟨S2048x704, .f32⟩
  | .hbm, ⟨44, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel25.lean ====
abbrev S704x1024 : Shape := ⟨2, ![704, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x352x1024, .bf16⟩
  | .hbm, ⟨4, _⟩ => ⟨S8x352x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c10_i32 : BitVec 32 := 10#32
  let v2 : BitVec 32 := Scalar.select v1 c0_i32_1 c10_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c10_i32 : BitVec 32 := 10#32
  let v2 : BitVec 32 := Scalar.select v1 c0_i32 c10_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S704x1024 : Shape := ⟨2, ![704, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel26.lean ====
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x128x1024, .bf16⟩
  | .hbm, ⟨4, _⟩ => ⟨S8x128x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S256x1024 : Shape := ⟨2, ![256, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel27.lean ====
abbrev S3072x128 : Shape := ⟨2, ![3072, 128]⟩
abbrev S8x1536x128 : Shape := ⟨3, ![8, 1536, 128]⟩
abbrev S768x128 : Shape := ⟨2, ![768, 128]⟩
abbrev S8x768x128 : Shape := ⟨3, ![8, 768, 128]⟩
abbrev S1x768x128 : Shape := ⟨3, ![1, 768, 128]⟩

abbrev nBuf : Space → Nat
  | .hbm => 9
  | .vmem => 18
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S8x1536x128, .bf16⟩
  | .hbm, ⟨4, _⟩ => ⟨S8x1536x128, .bf16⟩
  | .hbm, ⟨5, _⟩ => ⟨S3072x128, .f32⟩
  | .hbm, ⟨6, _⟩ => ⟨S3072x128, .f32⟩
  | .hbm, ⟨7, _⟩ => ⟨S3072x128, .f32⟩
  | .hbm, ⟨8, _⟩ => ⟨S3072x128, .f32⟩
  | .local _ .vmem, ⟨0, _⟩ => ⟨S768x128, .f32⟩
  | .local _ .vmem, ⟨1, _⟩ => ⟨S768x128, .f32⟩
  | .local _ .vmem, ⟨2, _⟩ => ⟨S768x128, .f32⟩
  | .local _ .vmem, ⟨3, _⟩ => ⟨S768x128, .f32⟩
  | .local _ .vmem, ⟨4, _⟩ => ⟨S768x128, .f32⟩
  | .local _ .vmem, ⟨5, _⟩ => ⟨S768x128, .f32⟩
  | .local _ .vmem, ⟨6, _⟩ => ⟨S8x768x128, .bf16⟩
  | .local _ .vmem, ⟨7, _⟩ => ⟨S8x768x128, .bf16⟩
  | .local _ .vmem, ⟨8, _⟩ => ⟨S8x768x128, .bf16⟩
  | .local _ .vmem, ⟨9, _⟩ => ⟨S8x768x128, .bf16⟩
  | .local _ .vmem, ⟨10, _⟩ => ⟨S768x128, .f32⟩
  | .local _ .vmem, ⟨11, _⟩ => ⟨S768x128, .f32⟩
  | .local _ .vmem, ⟨12, _⟩ => ⟨S768x128, .f32⟩
  | .local _ .vmem, ⟨13, _⟩ => ⟨S768x128, .f32⟩
  | .local _ .vmem, ⟨14, _⟩ => ⟨S768x128, .f32⟩
  | .local _ .vmem, ⟨15, _⟩ => ⟨S768x128, .f32⟩
  | .local _ .vmem, ⟨16, _⟩ => ⟨S768x128, .f32⟩
  | .local _ .vmem, ⟨17, _⟩ => ⟨S768x128, .f32⟩
  | _, _ => ⟨S3072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S3072x128 : Shape := ⟨2, ![3072, 128]⟩
abbrev S8x1536x128 : Shape := ⟨3, ![8, 1536, 128]⟩
abbrev S_ : Shape := ⟨0, ![]⟩
abbrev S1536x128 : Shape := ⟨2, ![1536, 128]⟩

abbrev nBuf : Space → Nat
  | .hbm => 45
  | .vmem => 0
  | .smem => 0
  | _ => 0

abbrev bufTy : (tb : Table) → Fin (tcTables nBuf tb) → BufTy
  | .hbm, ⟨0, _⟩ => ⟨S3072x128, .f32⟩
  | .hbm, ⟨1, _⟩ => ⟨S3072x128, .f32⟩
  | .hbm, ⟨2, _⟩ => ⟨S3072x128, .f32⟩
  | .hbm, ⟨3, _⟩ => ⟨S8x1536x128, .bf16⟩
  | .hbm, ⟨4, _⟩ => ⟨S8x1536x128, .bf16⟩
  | .hbm, ⟨5, _⟩ => ⟨S8x1536x128, .f32⟩
  | .hbm, ⟨6, _⟩ => ⟨S_, .f32⟩
  | .hbm, ⟨7, _⟩ => ⟨S1536x128, .f32⟩
  | .hbm, ⟨8, _⟩ => ⟨S8x1536x128, .f32⟩
  | .hbm, ⟨9, _⟩ => ⟨S_, .f32⟩
  | .hbm, ⟨10, _⟩ => ⟨S1536x128, .f32⟩
  | .hbm, ⟨11, _⟩ => ⟨S3072x128, .f32⟩
  | .hbm, ⟨12, _⟩ => ⟨S_, .f32⟩
  | .hbm, ⟨13, _⟩ => ⟨S3072x128, .f32⟩
  | .hbm, ⟨14, _⟩ => ⟨S3072x128, .f32⟩
  | .hbm, ⟨15, _⟩ => ⟨S_, .f32⟩
  | .hbm, ⟨16, _⟩ => ⟨S3072x128, .f32⟩
  | .hbm, ⟨17, _⟩ => ⟨S3072x128, .f32⟩
  | .hbm, ⟨18, _⟩ => ⟨S3072x128, .f32⟩
  | .hbm, ⟨19, _⟩ => ⟨S_, .f32⟩
  | .hbm, ⟨20, _⟩ => ⟨S3072x128, .f32⟩
  | .hbm, ⟨21, _⟩ => ⟨S3072x128, .f32⟩
  | .hbm, ⟨22, _⟩ => ⟨S3072x128, .f32⟩
  | .hbm, ⟨23, _⟩ => ⟨S_, .f32⟩
  | .hbm, ⟨24, _⟩ => ⟨S3072x128, .f32⟩
  | .hbm, ⟨25, _⟩ => ⟨S3072x128, .f32⟩
  | .hbm, ⟨26, _⟩ => ⟨S3072x128, .f32⟩
  | .hbm, ⟨27, _⟩ => ⟨S_, .f32⟩
  | .hbm, ⟨28, _⟩ => ⟨S3072x128, .f32⟩
  | .hbm, ⟨29, _⟩ => ⟨S3072x128, .f32⟩
  | .hbm, ⟨30, _⟩ => ⟨S_, .f32⟩
  | .hbm, ⟨31, _⟩ => ⟨S3072x128, .f32⟩
  | .hbm, ⟨32, _⟩ => ⟨S3072x128, .f32⟩
  | .hbm, ⟨33, _⟩ => ⟨S3072x128, .f32⟩
  | .hbm, ⟨34, _⟩ => ⟨S_, .f32⟩
  | .hbm, ⟨35, _⟩ => ⟨S3072x128, .f32⟩
  | .hbm, ⟨36, _⟩ => ⟨S3072x128, .f32⟩
  | .hbm, ⟨37, _⟩ => ⟨S3072x128, .f32⟩
  | .hbm, ⟨38, _⟩ => ⟨S_, .f32⟩
  | .hbm, ⟨39, _⟩ => ⟨S3072x128, .f32⟩
  | .hbm, ⟨40, _⟩ => ⟨S3072x128, .f32⟩
  | .hbm, ⟨41, _⟩ => ⟨S3072x128, .f32⟩
  | .hbm, ⟨42, _⟩ => ⟨S_, .f32⟩
  | .hbm, ⟨43, _⟩ => ⟨S3072x128, .f32⟩
  | .hbm, ⟨44, _⟩ => ⟨S3072x128, .f32⟩
  | _, _ => ⟨S3072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S8x192 : Shape := ⟨2, ![8, 192]⟩
abbrev S8x8x192 : Shape := ⟨3, ![8, 8, 192]⟩
abbrev S1x8x192 : Shape := ⟨3, ![1, 8, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x8x192, .f32⟩
  | .hbm, ⟨4, _⟩ => ⟨S8x192, .f32⟩
  | .hbm, ⟨5, _⟩ => ⟨S8x192, .f32⟩
  | .hbm, ⟨6, _⟩ => ⟨S8x192, .f32⟩
  | .hbm, ⟨7, _⟩ => ⟨S8x192, .f32⟩
  | .local _ .vmem, ⟨0, _⟩ => ⟨S8x192, .f32⟩
  | .local _ .vmem, ⟨1, _⟩ => ⟨S8x192, .f32⟩
  | .local _ .vmem, ⟨2, _⟩ => ⟨S8x192, .f32⟩
  | .local _ .vmem, ⟨3, _⟩ => ⟨S8x8x192, .f32⟩
  | .local _ .vmem, ⟨4, _⟩ => ⟨S8x192, .f32⟩
  | .local _ .vmem, ⟨5, _⟩ => ⟨S8x192, .f32⟩
  | .local _ .vmem, ⟨6, _⟩ => ⟨S8x192, .f32⟩
  | .local _ .vmem, ⟨7, _⟩ => ⟨S8x192, .f32⟩
  | _, _ => ⟨S8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S8x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x8x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S8x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S8x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S8x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S8x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference28Ideal.lean ====
abbrev S8x192 : Shape := ⟨2, ![8, 192]⟩
abbrev S8x8x192 : Shape := ⟨3, ![8, 8, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x192, .f32⟩
  | .hbm, ⟨1, _⟩ => ⟨S8x192, .f32⟩
  | .hbm, ⟨2, _⟩ => ⟨S8x192, .f32⟩
  | .hbm, ⟨3, _⟩ => ⟨S8x8x192, .f32⟩
  | .hbm, ⟨4, _⟩ => ⟨S_, .f32⟩
  | .hbm, ⟨5, _⟩ => ⟨S8x192, .f32⟩
  | .hbm, ⟨6, _⟩ => ⟨S_, .f32⟩
  | .hbm, ⟨7, _⟩ => ⟨S8x192, .f32⟩
  | .hbm, ⟨8, _⟩ => ⟨S8x192, .f32⟩
  | .hbm, ⟨9, _⟩ => ⟨S_, .f32⟩
  | .hbm, ⟨10, _⟩ => ⟨S8x192, .f32⟩
  | .hbm, ⟨11, _⟩ => ⟨S8x192, .f32⟩
  | .hbm, ⟨12, _⟩ => ⟨S8x192, .f32⟩
  | .hbm, ⟨13, _⟩ => ⟨S_, .f32⟩
  | .hbm, ⟨14, _⟩ => ⟨S8x192, .f32⟩
  | .hbm, ⟨15, _⟩ => ⟨S8x192, .f32⟩
  | .hbm, ⟨16, _⟩ => ⟨S8x192, .f32⟩
  | .hbm, ⟨17, _⟩ => ⟨S_, .f32⟩
  | .hbm, ⟨18, _⟩ => ⟨S8x192, .f32⟩
  | .hbm, ⟨19, _⟩ => ⟨S8x192, .f32⟩
  | .hbm, ⟨20, _⟩ => ⟨S8x192, .f32⟩
  | .hbm, ⟨21, _⟩ => ⟨S_, .f32⟩
  | .hbm, ⟨22, _⟩ => ⟨S8x192, .f32⟩
  | .hbm, ⟨23, _⟩ => ⟨S8x192, .f32⟩
  | .hbm, ⟨24, _⟩ => ⟨S_, .f32⟩
  | .hbm, ⟨25, _⟩ => ⟨S8x192, .f32⟩
  | .hbm, ⟨26, _⟩ => ⟨S8x192, .f32⟩
  | .hbm, ⟨27, _⟩ => ⟨S8x192, .f32⟩
  | .hbm, ⟨28, _⟩ => ⟨S_, .f32⟩
  | .hbm, ⟨29, _⟩ => ⟨S8x192, .f32⟩
  | .hbm, ⟨30, _⟩ => ⟨S8x192, .f32⟩
  | .hbm, ⟨31, _⟩ => ⟨S8x192, .f32⟩
  | .hbm, ⟨32, _⟩ => ⟨S_, .f32⟩
  | .hbm, ⟨33, _⟩ => ⟨S8x192, .f32⟩
  | .hbm, ⟨34, _⟩ => ⟨S8x192, .f32⟩
  | .hbm, ⟨35, _⟩ => ⟨S8x192, .f32⟩
  | .hbm, ⟨36, _⟩ => ⟨S_, .f32⟩
  | .hbm, ⟨37, _⟩ => ⟨S8x192, .f32⟩
  | .hbm, ⟨38, _⟩ => ⟨S8x192, .f32⟩
  | _, _ => ⟨S8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel29.lean ====
abbrev S1120x128 : Shape := ⟨2, ![1120, 128]⟩
abbrev S8x1120x128 : Shape := ⟨3, ![8, 1120, 128]⟩
abbrev S560x128 : Shape := ⟨2, ![560, 128]⟩
abbrev S8x560x128 : Shape := ⟨3, ![8, 560, 128]⟩
abbrev S1x560x128 : Shape := ⟨3, ![1, 560, 128]⟩

abbrev nBuf : Space → Nat
  | .hbm => 8
  | .vmem => 16
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S8x1120x128, .f32⟩
  | .hbm, ⟨4, _⟩ => ⟨S1120x128, .f32⟩
  | .hbm, ⟨5, _⟩ => ⟨S1120x128, .f32⟩
  | .hbm, ⟨6, _⟩ => ⟨S1120x128, .f32⟩
  | .hbm, ⟨7, _⟩ => ⟨S1120x128, .f32⟩
  | .local _ .vmem, ⟨0, _⟩ => ⟨S560x128, .f32⟩
  | .local _ .vmem, ⟨1, _⟩ => ⟨S560x128, .f32⟩
  | .local _ .vmem, ⟨2, _⟩ => ⟨S560x128, .f32⟩
  | .local _ .vmem, ⟨3, _⟩ => ⟨S560x128, .f32⟩
  | .local _ .vmem, ⟨4, _⟩ => ⟨S560x128, .f32⟩
  | .local _ .vmem, ⟨5, _⟩ => ⟨S560x128, .f32⟩
  | .local _ .vmem, ⟨6, _⟩ => ⟨S8x560x128, .f32⟩
  | .local _ .vmem, ⟨7, _⟩ => ⟨S8x560x128, .f32⟩
  | .local _ .vmem, ⟨8, _⟩ => ⟨S560x128, .f32⟩
  | .local _ .vmem, ⟨9, _⟩ => ⟨S560x128, .f32⟩
  | .local _ .vmem, ⟨10, _⟩ => ⟨S560x128, .f32⟩
  | .local _ .vmem, ⟨11, _⟩ => ⟨S560x128, .f32⟩
  | .local _ .vmem, ⟨12, _⟩ => ⟨S560x128, .f32⟩
  | .local _ .vmem, ⟨13, _⟩ => ⟨S560x128, .f32⟩
  | .local _ .vmem, ⟨14, _⟩ => ⟨S560x128, .f32⟩
  | .local _ .vmem, ⟨15, _⟩ => ⟨S560x128, .f32⟩
  | _, _ => ⟨S1120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S560x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S560x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference29Ideal.lean ====
abbrev S1120x128 : Shape := ⟨2, ![1120, 128]⟩
abbrev S8x1120x128 : Shape := ⟨3, ![8, 1120, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1120x128, .f32⟩
  | .hbm, ⟨1, _⟩ => ⟨S1120x128, .f32⟩
  | .hbm, ⟨2, _⟩ => ⟨S1120x128, .f32⟩
  | .hbm, ⟨3, _⟩ => ⟨S8x1120x128, .f32⟩
  | .hbm, ⟨4, _⟩ => ⟨S_, .f32⟩
  | .hbm, ⟨5, _⟩ => ⟨S1120x128, .f32⟩
  | .hbm, ⟨6, _⟩ => ⟨S_, .f32⟩
  | .hbm, ⟨7, _⟩ => ⟨S1120x128, .f32⟩
  | .hbm, ⟨8, _⟩ => ⟨S1120x128, .f32⟩
  | .hbm, ⟨9, _⟩ => ⟨S_, .f32⟩
  | .hbm, ⟨10, _⟩ => ⟨S1120x128, .f32⟩
  | .hbm, ⟨11, _⟩ => ⟨S1120x128, .f32⟩
  | .hbm, ⟨12, _⟩ => ⟨S1120x128, .f32⟩
  | .hbm, ⟨13, _⟩ => ⟨S_, .f32⟩
  | .hbm, ⟨14, _⟩ => ⟨S1120x128, .f32⟩
  | .hbm, ⟨15, _⟩ => ⟨S1120x128, .f32⟩
  | .hbm, ⟨16, _⟩ => ⟨S1120x128, .f32⟩
  | .hbm, ⟨17, _⟩ => ⟨S_, .f32⟩
  | .hbm, ⟨18, _⟩ => ⟨S1120x128, .f32⟩
  | .hbm, ⟨19, _⟩ => ⟨S1120x128, .f32⟩
  | .hbm, ⟨20, _⟩ => ⟨S1120x128, .f32⟩
  | .hbm, ⟨21, _⟩ => ⟨S_, .f32⟩
  | .hbm, ⟨22, _⟩ => ⟨S1120x128, .f32⟩
  | .hbm, ⟨23, _⟩ => ⟨S1120x128, .f32⟩
  | .hbm, ⟨24, _⟩ => ⟨S_, .f32⟩
  | .hbm, ⟨25, _⟩ => ⟨S1120x128, .f32⟩
  | .hbm, ⟨26, _⟩ => ⟨S1120x128, .f32⟩
  | .hbm, ⟨27, _⟩ => ⟨S1120x128, .f32⟩
  | .hbm, ⟨28, _⟩ => ⟨S_, .f32⟩
  | .hbm, ⟨29, _⟩ => ⟨S1120x128, .f32⟩
  | .hbm, ⟨30, _⟩ => ⟨S1120x128, .f32⟩
  | .hbm, ⟨31, _⟩ => ⟨S1120x128, .f32⟩
  | .hbm, ⟨32, _⟩ => ⟨S_, .f32⟩
  | .hbm, ⟨33, _⟩ => ⟨S1120x128, .f32⟩
  | .hbm, ⟨34, _⟩ => ⟨S1120x128, .f32⟩
  | .hbm, ⟨35, _⟩ => ⟨S1120x128, .f32⟩
  | .hbm, ⟨36, _⟩ => ⟨S_, .f32⟩
  | .hbm, ⟨37, _⟩ => ⟨S1120x128, .f32⟩
  | .hbm, ⟨38, _⟩ => ⟨S1120x128, .f32⟩
  | _, _ => ⟨S1120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel30.lean ====
abbrev S8192x6912 : Shape := ⟨2, ![8192, 6912]⟩
abbrev S16x1536 : Shape := ⟨2, ![16, 1536]⟩
abbrev S8192x1536 : Shape := ⟨2, ![8192, 1536]⟩
abbrev S512x1536 : Shape := ⟨2, ![512, 1536]⟩
abbrev S528x1536 : Shape := ⟨2, ![528, 1536]⟩
abbrev S1x1536 : Shape := ⟨2, ![1, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x6912, .bf16⟩
  | .hbm, ⟨1, _⟩ => ⟨S16x1536, .f32⟩
  | .hbm, ⟨2, _⟩ => ⟨S8192x1536, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S16x1536, .f32⟩
  | .local _ .vmem, ⟨5, _⟩ => ⟨S512x1536, .f32⟩
  | .local _ .vmem, ⟨6, _⟩ => ⟨S512x1536, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference30Ideal.lean ====
abbrev S8192x6912 : Shape := ⟨2, ![8192, 6912]⟩
abbrev S16x1536 : Shape := ⟨2, ![16, 1536]⟩
abbrev S8192x1536 : Shape := ⟨2, ![8192, 1536]⟩
abbrev S1x8192x1536 : Shape := ⟨3, ![1, 8192, 1536]⟩
abbrev S4x1536 : Shape := ⟨2, ![4, 1536]⟩
abbrev S_ : Shape := ⟨0, ![]⟩
abbrev S1x8195x1536 : Shape := ⟨3, ![1, 8195, 1536]⟩
abbrev S1x1536 : Shape := ⟨2, ![1, 1536]⟩
abbrev S1536 : Shape := ⟨1, ![1536]⟩
abbrev S1x1x1536 : Shape := ⟨3, ![1, 1, 1536]⟩

abbrev nBuf : Space → Nat
  | .hbm => 46
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S16x1536, .f32⟩
  | .hbm, ⟨2, _⟩ => ⟨S8192x1536, .bf16⟩
  | .hbm, ⟨3, _⟩ => ⟨S1x8192x1536, .bf16⟩
  | .hbm, ⟨4, _⟩ => ⟨S1x8192x1536, .f32⟩
  | .hbm, ⟨5, _⟩ => ⟨S4x1536, .f32⟩
  | .hbm, ⟨6, _⟩ => ⟨S_, .i32⟩
  | .hbm, ⟨7, _⟩ => ⟨S_, .f32⟩
  | .hbm, ⟨8, _⟩ => ⟨S1x8195x1536, .f32⟩
  | .hbm, ⟨9, _⟩ => ⟨S1x8192x1536, .f32⟩
  | .hbm, ⟨10, _⟩ => ⟨S1x1536, .f32⟩
  | .hbm, ⟨11, _⟩ => ⟨S1536, .f32⟩
  | .hbm, ⟨12, _⟩ => ⟨S1x1x1536, .f32⟩
  | .hbm, ⟨13, _⟩ => ⟨S1x8192x1536, .f32⟩
  | .hbm, ⟨14, _⟩ => ⟨S1x8192x1536, .f32⟩
  | .hbm, ⟨15, _⟩ => ⟨S1x8192x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S1x8192x1536, .f32⟩
  | .hbm, ⟨20, _⟩ => ⟨S1x8192x1536, .f32⟩
  | .hbm, ⟨21, _⟩ => ⟨S1x8192x1536, .f32⟩
  | .hbm, ⟨22, _⟩ => ⟨S1x8192x1536, .f32⟩
  | .hbm, ⟨23, _⟩ => ⟨S1x1536, .f32⟩
  | .hbm, ⟨24, _⟩ => ⟨S1536, .f32⟩
  | .hbm, ⟨25, _⟩ => ⟨S1x1x1536, .f32⟩
  | .hbm, ⟨26, _⟩ => ⟨S1x8192x1536, .f32⟩
  | .hbm, ⟨27, _⟩ => ⟨S1x8192x1536, .f32⟩
  | .hbm, ⟨28, _⟩ => ⟨S1x8192x1536, .f32⟩
  | .hbm, ⟨29, _⟩ => ⟨S1x8192x1536, .f32⟩
  | .hbm, ⟨30, _⟩ => ⟨S1x1536, .f32⟩
  | .hbm, ⟨31, _⟩ => ⟨S1536, .f32⟩
  | .hbm, ⟨32, _⟩ => ⟨S1x1x1536, .f32⟩
  | .hbm, ⟨33, _⟩ => ⟨S1x8192x1536, .f32⟩
  | .hbm, ⟨34, _⟩ => ⟨S1x8192x1536, .f32⟩
  | .hbm, ⟨35, _⟩ => ⟨S1x8192x1536, .f32⟩
  | .hbm, ⟨36, _⟩ => ⟨S1x8192x1536, .f32⟩
  | .hbm, ⟨37, _⟩ => ⟨S1x8192x1536, .f32⟩
  | .hbm, ⟨38, _⟩ => ⟨S_, .f32⟩
  | .hbm, ⟨39, _⟩ => ⟨S1x8192x1536, .f32⟩
  | .hbm, ⟨40, _⟩ => ⟨S1x8192x1536, .f32⟩
  | .hbm, ⟨41, _⟩ => ⟨S_, .f32⟩
  | .hbm, ⟨42, _⟩ => ⟨S1x8192x1536, .f32⟩
  | .hbm, ⟨43, _⟩ => ⟨S1x8192x1536, .f32⟩
  | .hbm, ⟨44, _⟩ => ⟨S1x8192x1536, .f32⟩
  | .hbm, ⟨45, _⟩ => ⟨S8192x1536, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== Kernel31.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x1024 : Shape := ⟨2, ![8192, 1024]⟩
abbrev S1024x128 : Shape := ⟨2, ![1024, 128]⟩
abbrev S1x8192x1024 : Shape := ⟨3, ![1, 8192, 1024]⟩
abbrev S1x8192x128 : Shape := ⟨3, ![1, 8192, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1x8192x1024, .f32⟩
  | .hbm, ⟨4, _⟩ => ⟨S1024x128, .f32⟩
  | .hbm, ⟨5, _⟩ => ⟨S1x8192x128, .f32⟩
  | .hbm, ⟨6, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel32.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference32Ideal.lean ====
abbrev S8192x1024 : Shape := ⟨2, ![8192, 1024]⟩
abbrev S8192x128 : Shape := ⟨2, ![8192, 128]⟩
abbrev S1x8192x1024 : Shape := ⟨3, ![1, 8192, 1024]⟩
abbrev S1x8192x128 : Shape := ⟨3, ![1, 8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S1x8192x1024, .f32⟩
  | .hbm, ⟨4, _⟩ => ⟨S8192x128, .f32⟩
  | .hbm, ⟨5, _⟩ => ⟨S1x8192x128, .f32⟩
  | .hbm, ⟨6, _⟩ => ⟨S_, .f32⟩
  | .hbm, ⟨7, _⟩ => ⟨S1024x128, .f32⟩
  | .hbm, ⟨8, _⟩ => ⟨S1x8192x128, .f32⟩
  | .hbm, ⟨9, _⟩ => ⟨S128x1024, .f32⟩
  | .hbm, ⟨10, _⟩ => ⟨S1024x128, .f32⟩
  | .hbm, ⟨11, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel33.lean ====
abbrev S8192x128 : Shape := ⟨2, ![8192, 128]⟩
abbrev S1024x128 : Shape := ⟨2, ![1024, 128]⟩
abbrev S8192x1024 : Shape := ⟨2, ![8192, 1024]⟩
abbrev S512x128 : Shape := ⟨2, ![512, 128]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S8192x1024, .bf16⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference33Ideal.lean ====
abbrev S8192x128 : Shape := ⟨2, ![8192, 128]⟩
abbrev S1024x128 : Shape := ⟨2, ![1024, 128]⟩
abbrev S8192x1024 : Shape := ⟨2, ![8192, 1024]⟩
abbrev S1x8192x128 : Shape := ⟨3, ![1, 8192, 128]⟩
abbrev S_ : Shape := ⟨0, ![]⟩
abbrev S1x8192x1024 : Shape := ⟨3, ![1, 8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | .hbm, ⟨5, _⟩ => ⟨S1x8192x128, .f32⟩
  | .hbm, ⟨6, _⟩ => ⟨S_, .f32⟩
  | .hbm, ⟨7, _⟩ => ⟨S1x8192x1024, .f32⟩
  | .hbm, ⟨8, _⟩ => ⟨S1x8192x128, .f32⟩
  | .hbm, ⟨9, _⟩ => ⟨S1x8192x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel34.lean ====
abbrev S8192x6912 : Shape := ⟨2, ![8192, 6912]⟩
abbrev S16x1536 : Shape := ⟨2, ![16, 1536]⟩
abbrev S8192x1536 : Shape := ⟨2, ![8192, 1536]⟩
abbrev S512x1536 : Shape := ⟨2, ![512, 1536]⟩
abbrev S544x1536 : Shape := ⟨2, ![544, 1536]⟩
abbrev S528x1536 : Shape := ⟨2, ![528, 1536]⟩
abbrev S1x1536 : Shape := ⟨2, ![1, 1536]⟩
abbrev S1536 : Shape := ⟨1, ![1536]⟩
abbrev S12x1536 : Shape := ⟨2, ![12, 1536]⟩

abbrev nBuf : Space → Nat
  | .hbm => 6
  | .vmem => 14
  | .smem => 0
  | _ => 0

abbrev bufTy : (tb : Table) → Fin (tcTables nBuf tb) → BufTy
  | .hbm, ⟨0, _⟩ => ⟨S8192x6912, .bf16⟩
  | .hbm, ⟨1, _⟩ => ⟨S16x1536, .f32⟩
  | .hbm, ⟨2, _⟩ => ⟨S8192x1536, .f32⟩
  | .hbm, ⟨3, _⟩ => ⟨S8192x6912, .bf16⟩
  | .hbm, ⟨4, _⟩ => ⟨S8192x6912, .bf16⟩
  | .hbm, ⟨5, _⟩ => ⟨S16x1536, .f32⟩
  | .local _ .vmem, ⟨0, _⟩ => ⟨S512x1536, .bf16⟩
  | .local _ .vmem, ⟨1, _⟩ => ⟨S512x1536, .bf16⟩
  | .local _ .vmem, ⟨2, _⟩ => ⟨S16x1536, .bf16⟩
  | .local _ .vmem, ⟨3, _⟩ => ⟨S16x1536, .bf16⟩
  | .local _ .vmem, ⟨4, _⟩ => ⟨S16x1536, .bf16⟩
  | .local _ .vmem, ⟨5, _⟩ => ⟨S16x1536, .bf16⟩
  | .local _ .vmem, ⟨6, _⟩ => ⟨S16x1536, .f32⟩
  | .local _ .vmem, ⟨7, _⟩ => ⟨S512x1536, .f32⟩
  | .local _ .vmem, ⟨8, _⟩ => ⟨S512x1536, .f32⟩
  | .local _ .vmem, ⟨9, _⟩ => ⟨S16x1536, .f32⟩
  | .local _ .vmem, ⟨10, _⟩ => ⟨S16x1536, .f32⟩
  | .local _ .vmem, ⟨11, _⟩ => ⟨S512x1536, .bf16⟩
  | .local _ .vmem, ⟨12, _⟩ => ⟨S512x1536, .bf16⟩
  | .local _ .vmem, ⟨13, _⟩ => ⟨S16x1536, .f32⟩
  | _, _ => ⟨S8192x6912, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference34Ideal.lean ====
abbrev S8192x6912 : Shape := ⟨2, ![8192, 6912]⟩
abbrev S16x1536 : Shape := ⟨2, ![16, 1536]⟩
abbrev S8192x1536 : Shape := ⟨2, ![8192, 1536]⟩
abbrev S1x8192x1536 : Shape := ⟨3, ![1, 8192, 1536]⟩
abbrev S4x1536 : Shape := ⟨2, ![4, 1536]⟩
abbrev S_ : Shape := ⟨0, ![]⟩
abbrev S1x3x1536 : Shape := ⟨3, ![1, 3, 1536]⟩
abbrev S1x8195x1536 : Shape := ⟨3, ![1, 8195, 1536]⟩
abbrev S1x1536 : Shape := ⟨2, ![1, 1536]⟩
abbrev S1536 : Shape := ⟨1, ![1536]⟩
abbrev S1x1x1536 : Shape := ⟨3, ![1, 1, 1536]⟩
abbrev S8192x3840 : Shape := ⟨2, ![8192, 3840]⟩

abbrev nBuf : Space → Nat
  | .hbm => 128
  | .vmem => 0
  | .smem => 0
  | _ => 0

abbrev bufTy : (tb : Table) → Fin (tcTables nBuf tb) → BufTy
  | .hbm, ⟨0, _⟩ => ⟨S8192x6912, .bf16⟩
  | .hbm, ⟨1, _⟩ => ⟨S16x1536, .f32⟩
  | .hbm, ⟨2, _⟩ => ⟨S8192x1536, .f32⟩
  | .hbm, ⟨3, _⟩ => ⟨S8192x6912, .bf16⟩
  | .hbm, ⟨4, _⟩ => ⟨S8192x1536, .bf16⟩
  | .hbm, ⟨5, _⟩ => ⟨S8192x1536, .f32⟩
  | .hbm, ⟨6, _⟩ => ⟨S1x8192x1536, .f32⟩
  | .hbm, ⟨7, _⟩ => ⟨S4x1536, .f32⟩
  | .hbm, ⟨8, _⟩ => ⟨S_, .f32⟩
  | .hbm, ⟨9, _⟩ => ⟨S1x3x1536, .f32⟩
  | .hbm, ⟨10, _⟩ => ⟨S1x8195x1536, .f32⟩
  | .hbm, ⟨11, _⟩ => ⟨S_, .f32⟩
  | .hbm, ⟨12, _⟩ => ⟨S1x3x1536, .f32⟩
  | .hbm, ⟨13, _⟩ => ⟨S1x8192x1536, .f32⟩
  | .hbm, ⟨14, _⟩ => ⟨S1x1536, .f32⟩
  | .hbm, ⟨15, _⟩ => ⟨S1536, .f32⟩
  | .hbm, ⟨16, _⟩ => ⟨S1x1x1536, .f32⟩
  | .hbm, ⟨17, _⟩ => ⟨S1x8192x1536, .f32⟩
  | .hbm, ⟨18, _⟩ => ⟨S1x8192x1536, .f32⟩
  | .hbm, ⟨19, _⟩ => ⟨S1x8192x1536, .f32⟩
  | .hbm, ⟨20, _⟩ => ⟨S1x1536, .f32⟩
  | .hbm, ⟨21, _⟩ => ⟨S1536, .f32⟩
  | .hbm, ⟨22, _⟩ => ⟨S1x1x1536, .f32⟩
  | .hbm, ⟨23, _⟩ => ⟨S1x8192x1536, .f32⟩
  | .hbm, ⟨24, _⟩ => ⟨S1x8192x1536, .f32⟩
  | .hbm, ⟨25, _⟩ => ⟨S1x8192x1536, .f32⟩
  | .hbm, ⟨26, _⟩ => ⟨S1x8192x1536, .f32⟩
  | .hbm, ⟨27, _⟩ => ⟨S1x1536, .f32⟩
  | .hbm, ⟨28, _⟩ => ⟨S1536, .f32⟩
  | .hbm, ⟨29, _⟩ => ⟨S1x1x1536, .f32⟩
  | .hbm, ⟨30, _⟩ => ⟨S1x8192x1536, .f32⟩
  | .hbm, ⟨31, _⟩ => ⟨S1x8192x1536, .f32⟩
  | .hbm, ⟨32, _⟩ => ⟨S1x8192x1536, .f32⟩
  | .hbm, ⟨33, _⟩ => ⟨S1x8192x1536, .f32⟩
  | .hbm, ⟨34, _⟩ => ⟨S1x1536, .f32⟩
  | .hbm, ⟨35, _⟩ => ⟨S1536, .f32⟩
  | .hbm, ⟨36, _⟩ => ⟨S1x1x1536, .f32⟩
  | .hbm, ⟨37, _⟩ => ⟨S1x8192x1536, .f32⟩
  | .hbm, ⟨38, _⟩ => ⟨S1x8192x1536, .f32⟩
  | .hbm, ⟨39, _⟩ => ⟨S1x8192x1536, .f32⟩
  | .hbm, ⟨40, _⟩ => ⟨S1x8192x1536, .f32⟩
  | .hbm, ⟨41, _⟩ => ⟨S1x8192x1536, .f32⟩
  | .hbm, ⟨42, _⟩ => ⟨S_, .f32⟩
  | .hbm, ⟨43, _⟩ => ⟨S1x8192x1536, .f32⟩
  | .hbm, ⟨44, _⟩ => ⟨S1x8192x1536, .f32⟩
  | .hbm, ⟨45, _⟩ => ⟨S_, .f32⟩
  | .hbm, ⟨46, _⟩ => ⟨S1x8192x1536, .f32⟩
  | .hbm, ⟨47, _⟩ => ⟨S1x8192x1536, .f32⟩
  | .hbm, ⟨48, _⟩ => ⟨S_, .f32⟩
  | .hbm, ⟨49, _⟩ => ⟨S1x8192x1536, .f32⟩
  | .hbm, ⟨50, _⟩ => ⟨S1x8192x1536, .f32⟩
  | .hbm, ⟨51, _⟩ => ⟨S1x8192x1536, .f32⟩
  | .hbm, ⟨52, _⟩ => ⟨S1x8192x1536, .f32⟩
  | .hbm, ⟨53, _⟩ => ⟨S1x8192x1536, .f32⟩
  | .hbm, ⟨54, _⟩ => ⟨S1x8192x1536, .f32⟩
  | .hbm, ⟨55, _⟩ => ⟨S1x8192x1536, .f32⟩
  | .hbm, ⟨56, _⟩ => ⟨S1x8192x1536, .f32⟩
  | .hbm, ⟨57, _⟩ => ⟨S1x8192x1536, .f32⟩
  | .hbm, ⟨58, _⟩ => ⟨S1x8192x1536, .f32⟩
  | .hbm, ⟨59, _⟩ => ⟨S_, .f32⟩
  | .hbm, ⟨60, _⟩ => ⟨S1x1536, .f32⟩
  | .hbm, ⟨61, _⟩ => ⟨S1x1x1536, .f32⟩
  | .hbm, ⟨62, _⟩ => ⟨S1x8192x1536, .f32⟩
  | .hbm, ⟨63, _⟩ => ⟨S1x8192x1536, .f32⟩
  | .hbm, ⟨64, _⟩ => ⟨S_, .f32⟩
  | .hbm, ⟨65, _⟩ => ⟨S1536, .f32⟩
  | .hbm, ⟨66, _⟩ => ⟨S1x1536, .f32⟩
  | .hbm, ⟨67, _⟩ => ⟨S_, .f32⟩
  | .hbm, ⟨68, _⟩ => ⟨S4x1536, .f32⟩
  | .hbm, ⟨69, _⟩ => ⟨S_, .f32⟩
  | .hbm, ⟨70, _⟩ => ⟨S1x8195x1536, .f32⟩
  | .hbm, ⟨71, _⟩ => ⟨S1x8192x1536, .f32⟩
  | .hbm, ⟨72, _⟩ => ⟨S_, .f32⟩
  | .hbm, ⟨73, _⟩ => ⟨S1x1536, .f32⟩
  | .hbm, ⟨74, _⟩ => ⟨S1x1x1536, .f32⟩
  | .hbm, ⟨75, _⟩ => ⟨S1x8192x1536, .f32⟩
  | .hbm, ⟨76, _⟩ => ⟨S1x8192x1536, .f32⟩
  | .hbm, ⟨77, _⟩ => ⟨S_, .f32⟩
  | .hbm, ⟨78, _⟩ => ⟨S1536, .f32⟩
  | .hbm, ⟨79, _⟩ => ⟨S1x1536, .f32⟩
  | .hbm, ⟨80, _⟩ => ⟨S_, .f32⟩
  | .hbm, ⟨81, _⟩ => ⟨S4x1536, .f32⟩
  | .hbm, ⟨82, _⟩ => ⟨S4x1536, .f32⟩
  | .hbm, ⟨83, _⟩ => ⟨S_, .f32⟩
  | .hbm, ⟨84, _⟩ => ⟨S1x8195x1536, .f32⟩
  | .hbm, ⟨85, _⟩ => ⟨S1x8195x1536, .f32⟩
  | .hbm, ⟨86, _⟩ => ⟨S1x8192x1536, .f32⟩
  | .hbm, ⟨87, _⟩ => ⟨S_, .f32⟩
  | .hbm, ⟨88, _⟩ => ⟨S1x1536, .f32⟩
  | .hbm, ⟨89, _⟩ => ⟨S1x1x1536, .f32⟩
  | .hbm, ⟨90, _⟩ => ⟨S1x8192x1536, .f32⟩
  | .hbm, ⟨91, _⟩ => ⟨S1x8192x1536, .f32⟩
  | .hbm, ⟨92, _⟩ => ⟨S_, .f32⟩
  | .hbm, ⟨93, _⟩ => ⟨S1536, .f32⟩
  | .hbm, ⟨94, _⟩ => ⟨S1x1536, .f32⟩
  | .hbm, ⟨95, _⟩ => ⟨S_, .f32⟩
  | .hbm, ⟨96, _⟩ => ⟨S4x1536, .f32⟩
  | .hbm, ⟨97, _⟩ => ⟨S4x1536, .f32⟩
  | .hbm, ⟨98, _⟩ => ⟨S_, .f32⟩
  | .hbm, ⟨99, _⟩ => ⟨S1x8195x1536, .f32⟩
  | .hbm, ⟨100, _⟩ => ⟨S1x8195x1536, .f32⟩
  | .hbm, ⟨101, _⟩ => ⟨S1x8192x1536, .f32⟩
  | .hbm, ⟨102, _⟩ => ⟨S_, .f32⟩
  | .hbm, ⟨103, _⟩ => ⟨S1x1536, .f32⟩
  | .hbm, ⟨104, _⟩ => ⟨S1x1x1536, .f32⟩
  | .hbm, ⟨105, _⟩ => ⟨S1x8192x1536, .f32⟩
  | .hbm, ⟨106, _⟩ => ⟨S1x8192x1536, .f32⟩
  | .hbm, ⟨107, _⟩ => ⟨S_, .f32⟩
  | .hbm, ⟨108, _⟩ => ⟨S1536, .f32⟩
  | .hbm, ⟨109, _⟩ => ⟨S1x1536, .f32⟩
  | .hbm, ⟨110, _⟩ => ⟨S_, .f32⟩
  | .hbm, ⟨111, _⟩ => ⟨S4x1536, .f32⟩
  | .hbm, ⟨112, _⟩ => ⟨S4x1536, .f32⟩
  | .hbm, ⟨113, _⟩ => ⟨S_, .f32⟩
  | .hbm, ⟨114, _⟩ => ⟨S1x8195x1536, .f32⟩
  | .hbm, ⟨115, _⟩ => ⟨S1x8195x1536, .f32⟩
  | .hbm, ⟨116, _⟩ => ⟨S1x3x1536, .f32⟩
  | .hbm, ⟨117, _⟩ => ⟨S1x8192x1536, .f32⟩
  | .hbm, ⟨118, _⟩ => ⟨S8192x1536, .bf16⟩
  | .hbm, ⟨119, _⟩ => ⟨S8192x1536, .f32⟩
  | .hbm, ⟨120, _⟩ => ⟨S8192x1536, .f32⟩
  | .hbm, ⟨121, _⟩ => ⟨S8192x3840, .bf16⟩
  | .hbm, ⟨122, _⟩ => ⟨S8192x3840, .f32⟩
  | .hbm, ⟨123, _⟩ => ⟨S8192x6912, .f32⟩
  | .hbm, ⟨124, _⟩ => ⟨S8192x6912, .bf16⟩
  | .hbm, ⟨125, _⟩ => ⟨S_, .i32⟩
  | .hbm, ⟨126, _⟩ => ⟨S_, .f32⟩
  | .hbm, ⟨127, _⟩ => ⟨S16x1536, .f32⟩
  | _, _ => ⟨S8192x6912, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c : Ref sig .tc := ⟨.hbm, 125, rfl⟩
abbrev main_call2_v0 : Ref sig .tc := ⟨.hbm, 126, rfl⟩
abbrev main_v88 : Ref sig .tc := ⟨.hbm, 127, rfl⟩

abbrev nD : Nat := 1
abbrev τ : Topo := Topo.v7x

variable {F : FTy → Type} [FloatOps F]
-- ==== Proof.MergeBlocks.lean ====
/-
  The blocks the merge gradient reads: grid point `t` (of 16) holds rows `512·t … 512·t + 511` of every row array, and of
  `proj` the 3072 columns of the gate section (columns 3072 … 6143).
-/
module

public import proofs.«01_k».proof.Proof.Gen.KernelIdeal.Frame
public import Idealize.ShloMosaic.Lib.Pipeline.ValueKit

@[expose] public section

set_option maxRecDepth 16384

noncomputable section

namespace Cert.KernelIdeal.Merge

open Cert.KernelIdeal Cert.KernelIdeal.Gen Idealize.ShloMosaic Idealize.ShloMosaic.TcCoe Idealize.SL.Sem

variable (m : (ℓ : Loc nD τ sig) → Buf (Elt Ideal) ℓ)

/-- The block index of every window at every grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![0, 0, 0] ∧ win0_5.index t = ![t.val, 0] ∧ win0_6.index t = ![t.val, 1]
    ∧ win0_7.index t = ![t.val, 0] ∧ win0_8.index t = ![t.val, 0] ∧ win0_9.index t = ![t.val, 0]
    ∧ win0_10.index t = ![0, 0, 0] :=
  (by decide +kernel : ∀ t : Fin grid0.N, _)

theorem row_lt (t : Fin cfg0.N) (r : Fin 512) : t.val * 512 + r.val < 8192 := by
  have := lt_of_lt_of_eq t.isLt N_0
  omega

theorem col_lt (l : Fin 3072) : 3072 + l.val < 6912 := by
  omega

/-- The gate block, although the window overlaps the array's end at other indices, is at every point wholly inside `proj`. -/
theorem gate_at (c : Dev nD) (t : Fin cfg0.N) (j : S512x3072.Idx) :
    X0_3 m c t j = (m ((c : Thread nD τ).loc main_arg3) : FVec Ideal S8192x6912 .bf16)
      (ix2 ⟨t.val * 512 + (j 0).val, row_lt t (j 0)⟩ ⟨3072 + (j 1).val, col_lt (j 1)⟩) := by
  unfold X0_3 Pipeline.Window.fill
  rw [dif_pos (moved0_3 t _)]
  blk_ext! [iblk, V, idx t]

/-- The same at a row and a column. -/
theorem gate_block (c : Dev nD) (t : Fin cfg0.N) (r : Fin 512) (l : Fin 3072) :
    X0_3 m c t (ix2 r l) = (m ((c : Thread nD τ).loc main_arg3) : FVec Ideal S8192x6912 .bf16)
      (ix2 ⟨t.val * 512 + r.val, row_lt t r⟩ ⟨3072 + l.val, col_lt l⟩) := gate_at m c t (ix2 r l)

end Cert.KernelIdeal.Merge
-- ==== Proof.MergeRows.lean ====
/-
  The gradients of the three branch outputs: row block `t` of each is (gate · output gradient) times the transposed branch weight.
-/
module

public import proofs.«01_k».proof.Proof.MergeBlocks
public import proofs.«01_k».proof.Proof.Gen.ReferenceIdeal.Read

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)
open Cert.ReferenceIdeal.Read

variable (m : (ℓ : Loc nD τ sig) → Buf (Elt Ideal) ℓ)

/-- After the run the gradient of the attention branch's rows is the reference's: each grid point writes its 512 rows once, and
    whether it is the first point (which also clears the weight gradient) or a later one, what it writes is the same. -/
theorem final7 (c : Dev nD) : (dats m 0 c).arrAt 7 (cfgs 0).N
    = val_main_v51 (F := Ideal) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  by_cases h0 : t.val % 16 = 0
  · rw [outsAt0_A m c t h0]
    frame_out
    pointwise [k0_pay7, k0_pay6, k0_pay4, val_main_v51, val_main_v39, val_main_v38, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]
  · rw [outsAt0_B m c t h0]
    frame_out
    pointwise [k0_pay7, k0_pay6, k0_pay4, val_main_v51, val_main_v39, val_main_v38, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]

/-- After the run the gradient of the second branch's rows is the reference's: each grid point writes its 512 rows once, and
    whether it is the first point (which also clears the weight gradient) or a later one, what it writes is the same. -/
theorem final8 (c : Dev nD) : (dats m 0 c).arrAt 8 (cfgs 0).N
    = val_main_v52 (F := Ideal) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  by_cases h0 : t.val % 16 = 0
  · rw [outsAt0_A m c t h0]
    frame_out
    pointwise [k0_pay14, k0_pay13, k0_pay12, k0_pay11, k0_pay9, val_main_v52, val_main_v41, val_main_v40, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]
  · rw [outsAt0_B m c t h0]
    frame_out
    pointwise [k0_pay14, k0_pay13, k0_pay12, k0_pay11, k0_pay9, val_main_v52, val_main_v41, val_main_v40, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]

/-- After the run the gradient of the third branch's rows is the reference's: each grid point writes its 512 rows once, and
    whether it is the first point (which also clears the weight gradient) or a later one, what it writes is the same. -/
theorem final9 (c : Dev nD) : (dats m 0 c).arrAt 9 (cfgs 0).N
    = val_main_v53 (F := Ideal) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  by_cases h0 : t.val % 16 = 0
  · rw [outsAt0_A m c t h0]
    frame_out
    pointwise [k0_pay1, k0_pay18, k0_pay16, val_main_v53, val_main_v43, val_main_v42, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]
  · rw [outsAt0_B m c t h0]
    frame_out
    pointwise [k0_pay1, k0_pay18, k0_pay16, val_main_v53, val_main_v43, val_main_v42, val_main_v37, val_main_v32, val_main_v30,
      val_main_v21, val_main_v20, val_main_v19, val_main_v18, val_main_v17, val_main_v16, val_main_v15, val_main_v9, val_main_v5,
    val_main_v4, val_main_v29, val_main_v28, val_main_v3, val_main_cst, val_main_cst_0]
    simp only [zero_sub, gate_at]
    blk_point [iblk, V, idx t]

end Cert.KernelIdeal.Merge
-- ==== Proof.MergeGate.lean ====
/-
  The gradient of the gate section: columns 3072 … 6143 of `dproj` become output gradient · branch product · σ·(1 − σ), the
  other columns stay as they came.
-/
module

public import proofs.«01_k».proof.Proof.MergeBlocks
public import proofs.«01_k».proof.Proof.Gen.ReferenceIdeal.Read

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)
open Cert.ReferenceIdeal.Read

section Reference
variable (A B C : FVec Ideal S8192x512 .bf16) (P : FVec Ideal S8192x6912 .bf16) (W : FVec Ideal S3x512x1024 .bf16)
  (DM : FVec Ideal S8192x1024 .f32) (DP : FVec Ideal S8192x6912 .bf16)

/-- The reference's gradient at a column of the gate section: column `3072 + 1024·n + d` belongs to branch `n` (rows `X`), feature `d`. -/
theorem ref_gate (i : S8192x6912.Idx) (r : Fin 8192) (n : Fin 3) (d : Fin 1024) (X : FVec Ideal S8192x512 .bf16)
    (hX : X = if n.val < 1 then A else if n.val - 1 < 1 then B else C) (h0 : (i 0).val = r.val) (h1 : (i 1).val = 3072 + (n.val * 1024 + d.val)) :
    val_main_v50 (F := Ideal) A B C P W DM DP i
      = DM (ix2 r d) * (∑ k : Fin 512, X (ix2 r k) * W (ix3 n k d))
        * Ideal.div 1 (1 + Ideal.exp (-P (ix2 r ⟨3072 + (n.val * 1024 + d.val), by omega⟩)))
        * (1 - Ideal.div 1 (1 + Ideal.exp (-P (ix2 r ⟨3072 + (n.val * 1024 + d.val), by omega⟩)))) := by
  have e : i = ix2 r ⟨3072 + (n.val * 1024 + d.val), by omega⟩ := by
    funext a
    fin_cases a
    · exact Fin.ext h0
    · exact Fin.ext h1
  rw [e]
  pointwise [val_main_v50, val_main_v49, val_main_v48, val_main_v47, val_main_v46, val_main_v45, val_main_v44, val_main_v34,
    val_main_v33, val_main_v31, val_main_v25, val_main_v24, val_main_v23, val_main_v22, val_main_v14, val_main_v13,
    val_main_v12, val_main_v11, val_main_v10, val_main_v8, val_main_v7, val_main_v6, val_main_v2, val_main_v1, val_main_v0,
    val_main_cst_1, val_main_v21, val_main_v20, val_main_v19, val_main_v18, val_main_v17, val_main_v16, val_main_v15, val_main_v9, val_main_v5,
    val_main_v4, val_main_v29, val_main_v28, val_main_v3, val_main_cst, val_main_cst_0]
  rw [dif_pos (show n.val * 1024 + d.val < 3072 by omega), mul_assoc _ (Ideal.div _ _)]
  subst hX
  by_cases c1 : n.val < 1
  · simp only [if_pos c1, dif_pos c1]
  · by_cases c2 : n.val - 1 < 1
    · simp only [if_neg c1, dif_neg c1, if_pos c2, dif_pos c2]
    · simp only [if_neg c1, dif_neg c1, if_neg c2, dif_neg c2]

/-- Outside the gate section the reference leaves `dproj` as it came. -/
theorem ref_rest (r : Fin 8192) (l : Fin 6912) (h : ¬(3072 ≤ l.val ∧ l.val < 6144)) :
    val_main_v50 (F := Ideal) A B C P W DM DP (ix2 r l) = DP (ix2 r l) := by
  pointwise [val_main_v50, val_main_v49, val_main_v47, val_main_v48, val_main_v45, val_main_v44]
  by_cases h0 : l.val < 3072
  · rw [dif_pos h0]
  · rw [dif_neg h0, dif_neg (by omega)]
    refine congrArg DP (congrArg (ix2 r) (Fin.ext ?_))
    show 6144 + (l.val - 3072 - 3072) = l.val
    omega
end Reference

variable (m : (ℓ : Loc nD τ sig) → Buf (Elt Ideal) ℓ)

set_option maxHeartbeats 1600000 in
/-- After the run `dproj` is the reference's. -/
theorem final6 (c : Dev nD) : (dats m 0 c).arrAt 6 (cfgs 0).N
    = val_main_v50 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_coversWhere_of_agree 6 _ (fun β => β 1 = 1) (by decide +kernel) (fun t hf y => ?_) (fun j hj => ?_)
  · blk_simp
    rw [after0_6]
    by_cases h0 : t.val % 16 = 0
    · rw [outsAt0_A m c t h0]
      frame_out
      canon_tiles x h
      case piece0 =>
        rw [ref_gate _ _ _ _ _ _ _ _ ⟨t.val * 512 + (x 0).val, row_lt t (x 0)⟩ 2 (x 1) _ rfl
          (by show _ = t.val * 512 + (x 0).val; have e : (y 0).val = (x 0).val := h0; blk_simp [idx t]; omega)
          (by show _ = 3072 + (2 * 1024 + (x 1).val); have e : (y 1).val = 2048 + (x 1).val := h1; blk_simp [idx t]; omega)]
        pointwise [k0_pay17, k0_pay16]
        simp only [zero_sub, gate_at]
        blk_point [iblk, V, idx t]
      case piece1 =>
        rw [ref_gate _ _ _ _ _ _ _ _ ⟨t.val * 512 + (x 0).val, row_lt t (x 0)⟩ 1 (x 1) _ rfl
          (by show _ = t.val * 512 + (x 0).val; have e : (y 0).val = (x 0).val := h0; blk_simp [idx t]; omega)
          (by show _ = 3072 + (1 * 1024 + (x 1).val); have e : (y 1).val = 1024 + (x 1).val := h1; blk_simp [idx t]; omega)]
        pointwise [k0_pay10, k0_pay9]
        simp only [zero_sub, gate_at]
        blk_point [iblk, V, idx t]
      case piece2 =>
        rw [ref_gate _ _ _ _ _ _ _ _ ⟨t.val * 512 + (x 0).val, row_lt t (x 0)⟩ 0 (x 1) _ rfl
          (by show _ = t.val * 512 + (x 0).val; have e : (y 0).val = (x 0).val := h0; blk_simp [idx t]; omega)
          (by show _ = 3072 + (0 * 1024 + (x 1).val); have e : (y 1).val = (x 1).val := h1; blk_simp [idx t]; omega)]
        pointwise [k0_pay5, k0_pay4]
        simp only [zero_sub, gate_at]
        blk_point [iblk, V, idx t]
    · rw [outsAt0_B m c t h0]
      frame_out
      canon_tiles x h
      case piece0 =>
        rw [ref_gate _ _ _ _ _ _ _ _ ⟨t.val * 512 + (x 0).val, row_lt t (x 0)⟩ 2 (x 1) _ rfl
          (by show _ = t.val * 512 + (x 0).val; have e : (y 0).val = (x 0).val := h0; blk_simp [idx t]; omega)
          (by show _ = 3072 + (2 * 1024 + (x 1).val); have e : (y 1).val = 2048 + (x 1).val := h1; blk_simp [idx t]; omega)]
        pointwise [k0_pay17, k0_pay16]
        simp only [zero_sub, gate_at]
        blk_point [iblk, V, idx t]
      case piece1 =>
        rw [ref_gate _ _ _ _ _ _ _ _ ⟨t.val * 512 + (x 0).val, row_lt t (x 0)⟩ 1 (x 1) _ rfl
          (by show _ = t.val * 512 + (x 0).val; have e : (y 0).val = (x 0).val := h0; blk_simp [idx t]; omega)
          (by show _ = 3072 + (1 * 1024 + (x 1).val); have e : (y 1).val = 1024 + (x 1).val := h1; blk_simp [idx t]; omega)]
        pointwise [k0_pay10, k0_pay9]
        simp only [zero_sub, gate_at]
        blk_point [iblk, V, idx t]
      case piece2 =>
        rw [ref_gate _ _ _ _ _ _ _ _ ⟨t.val * 512 + (x 0).val, row_lt t (x 0)⟩ 0 (x 1) _ rfl
          (by show _ = t.val * 512 + (x 0).val; have e : (y 0).val = (x 0).val := h0; blk_simp [idx t]; omega)
          (by show _ = 3072 + (0 * 1024 + (x 1).val); have e : (y 1).val = (x 1).val := h1; blk_simp [idx t]; omega)]
        pointwise [k0_pay5, k0_pay4]
        simp only [zero_sub, gate_at]
        blk_point [iblk, V, idx t]
  · idx_vars j
    blk_simp [Pipeline.Window.cell_apply] at hj
    refine Eq.trans ?_ (ref_rest _ _ _ _ _ _ _ _ _ ?_).symm
    · rfl
    · omega

end Cert.KernelIdeal.Merge
-- ==== Proof.MergeWeight.lean ====
/-
  The gradient of the three branch weights: one [3,512,1024] buffer, cleared at the first grid point, into which every grid
  point adds its rows' products; after the last point it holds the sum over all 8192 rows.
-/
module

public import proofs.«01_k».proof.Proof.MergeBlocks
public import proofs.«01_k».proof.Proof.Gen.ReferenceIdeal.Read
public import Idealize.ShloMosaic.Lib.Pipeline.ReadBack

@[expose] public section

set_option maxRecDepth 16384

noncomputable section

namespace Cert.KernelIdeal.Merge

open Cert.KernelIdeal Cert.KernelIdeal.Gen Idealize.ShloMosaic Idealize.ShloMosaic.TcCoe Idealize.SL.Sem
open Idealize.ShloMosaic.Pipeline (Dat)
open Cert.ReferenceIdeal.Read

/-- Three stores that cover a buffer hide whatever was stored before them. -/
theorem canon_three {Val : EltTy → Type} {S : Shape} {e : EltTy} [∀ e, Nonempty (Val e)] (p q r z : View.Piece Val S e) (y : S.Idx)
    (h : ∃ a ∈ [p, q, r], y ∈ a.1.set) : View.canon [p, q, r, z] y = View.canon [p, q, r] y := by
  by_cases hp : y ∈ p.1.set
  · obtain ⟨x, rfl⟩ := p.1.exists_idx_of_mem hp
    rw [show p.1.idx x = p.1.emb x from rfl, View.canon_cons_emb, View.canon_cons_emb]
  · rw [View.canon_cons_of_not_mem _ _ hp, View.canon_cons_of_not_mem _ _ hp]
    by_cases hq : y ∈ q.1.set
    · obtain ⟨x, rfl⟩ := q.1.exists_idx_of_mem hq
      rw [show q.1.idx x = q.1.emb x from rfl, View.canon_cons_emb, View.canon_cons_emb]
    · rw [View.canon_cons_of_not_mem _ _ hq, View.canon_cons_of_not_mem _ _ hq]
      have hr : y ∈ r.1.set := by
        obtain ⟨a, ha, hy⟩ := h
        simp only [List.mem_cons, List.not_mem_nil, or_false] at ha
        rcases ha with rfl | rfl | rfl
        · exact absurd hy hp
        · exact absurd hy hq
        · exact hy
      obtain ⟨x, rfl⟩ := r.1.exists_idx_of_mem hr
      rw [show r.1.idx x = r.1.emb x from rfl, View.canon_cons_emb, View.canon_cons_emb]

section Row
variable (A B C : FVec Ideal S8192x512 .bf16) (P : FVec Ideal S8192x6912 .bf16) (DM : FVec Ideal S8192x1024 .f32)

/-- What row `r` contributes to entry `j` of the weight gradient: branch row entry times (output gradient times gate). -/
def rowTerm (r : Fin 8192) (j : S3x512x1024.Idx) : EReal :=
  (if (j 0).val < 1 then A (ix2 r (j 1)) else if (j 0).val - 1 < 1 then B (ix2 r (j 1)) else C (ix2 r (j 1)))
    * (DM (ix2 r (j 2)) * Ideal.div 1 (1 + Ideal.exp (-P (ix2 r ⟨3072 + ((j 0).val * 1024 + (j 2).val), by
        have h0 : (j 0).val < 3 := (j 0).isLt
        have h2 : (j 2).val < 1024 := (j 2).isLt
        omega⟩))))

/-- The reference's weight gradient is the sum of the rows' contributions. -/
theorem ref_weight (j : S3x512x1024.Idx) : val_main_v36 (F := Ideal) A B C P DM j = ∑ r : Fin 8192, rowTerm A B C P DM r j := by
  pointwise [rowTerm, val_main_v36, val_main_v35, val_main_v32, val_main_v30, val_main_v13, val_main_v12, val_main_v11,
    val_main_v10, val_main_v8, val_main_v7, val_main_v6, val_main_v2, val_main_v1, val_main_v0,
    val_main_v21, val_main_v20, val_main_v19, val_main_v18, val_main_v17, val_main_v16, val_main_v15, val_main_v9, val_main_v5,
    val_main_v4, val_main_v29, val_main_v28, val_main_v3, val_main_cst, val_main_cst_0]
  rw [Fin.sum_univ_one]
  refine Finset.sum_congr rfl fun r _ => ?_
  rw [mul_comm, mul_comm (Ideal.div _ _)]
  rfl
end Row

variable (m : (ℓ : Loc nD τ sig) → Buf (Elt Ideal) ℓ)

/-- What grid point `t` adds: the contributions of its 512 rows. -/
def part (c : Dev nD) (t : Fin cfg0.N) (j : S3x512x1024.Idx) : EReal :=
  ∑ r : Fin 512, rowTerm (m ((c : Thread nD τ).loc main_arg0)) (m ((c : Thread nD τ).loc main_arg1)) (m ((c : Thread nD τ).loc main_arg2)) (m ((c : Thread nD τ).loc main_arg3)) (m ((c : Thread nD τ).loc main_arg5)) ⟨t.val * 512 + r.val, row_lt t r⟩ j

/-- The first point clears the buffer and adds its rows. -/
theorem weight_first (c : Dev nD) (t : Fin cfg0.N) (h0 : t.val % 16 = 0) (y : S3x512x1024.Idx) :
    (outsAt0 m c t.val t.isLt).2.2.2.2 y = 0 + part m c t y := by
  rw [outsAt0_A m c t h0]
  frame_open
  simp (disch := decide) only [↓ View.readCov_skip, ↓ View.readCov_cons_toLoadRect, ↓ View.readCov_fill]
  frame_out
  rw [canon_three _ _ _ _ y (View.cover_of_tiled_head _ _ _ (by rfl) y)]
  canon_tiles x h
  all_goals
    pointwise [k0_pay2, k0_pay18, k0_pay16, k0_pay3, k0_pay15, k0_pay11, k0_pay9, k0_pay8, k0_pay6, k0_pay4]
    simp only [zero_sub, zero_add, gate_block, part, rowTerm]
  all_goals blk_point [iblk, V, idx t]
  all_goals omega

/-- A later point adds its rows to what the point before left. -/
theorem weight_next (c : Dev nD) (t : Fin cfg0.N) (h0 : ¬ t.val % 16 = 0) (y : S3x512x1024.Idx) :
    (outsAt0 m c t.val t.isLt).2.2.2.2 y
      = (outsAt0 m c (t.val - 1) (Nat.lt_of_le_of_lt (Nat.sub_le _ _) t.isLt)).2.2.2.2 y + part m c t y := by
  rw [outsAt0_B m c t h0]
  frame_out
  canon_tiles x h
  all_goals
    pointwise [k0_pay2, k0_pay18, k0_pay16, k0_pay3, k0_pay15, k0_pay11, k0_pay9, k0_pay8, k0_pay6, k0_pay4]
    simp only [zero_sub, zero_add, gate_block, part, rowTerm]
  all_goals blk_point [iblk, V, idx t]
  all_goals omega

/-- After the run the weight gradient is the reference's. -/
theorem final10 (c : Dev nD) : (dats m 0 c).arrAt 10 (cfgs 0).N
    = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_after_last 10 t0_15 (by decide +kernel) _ fun j => ?_
  blk_simp
  rw [after0_10, ref_weight]
  refine (Pipeline.eq_sum_fin_of_reset_step_apply_last (fun n h => (outsAt0 m c n h).2.2.2.2) 16 (fun _ => 0) (part m c)
    (fun t h j => weight_first m c t h j) (fun t h j => weight_next m c t h j) (le_of_eq N_0) t0_15 rfl j).trans ?_
  rw [zero_add]
  exact Fin.sum_mul_add_congr fun s k hl => rfl

end Cert.KernelIdeal.Merge
-- ==== Proof.InProjWeight.lean ====
/-
  The weight gradient of the input projection, `hᵀ · dproj`: grid point `t` works on column block `t / 4` of the result and on
  rows `2048·(t % 4) …` of the contraction, which it adds into a scratch buffer; the last of four points writes the block.
-/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pipeline.ReadBack

@[expose] public section

set_option maxRecDepth 16384

noncomputable section

namespace Cert.Kernel2Ideal.InProjWeight

open Cert.Kernel2Ideal Cert.Kernel2Ideal.Gen Idealize.ShloMosaic Idealize.ShloMosaic.TcCoe Idealize.SL.Sem
open Idealize.ShloMosaic.Pipeline (Dat)
open Cert.Reference2Ideal.Read

/-- The block index of every window at every grid point. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

theorem row_lt (t : Fin cfg0.N) (r : Fin 2048) : t.val % 4 * 2048 + r.val < 8192 := by
  omega

theorem col_lt (t : Fin cfg0.N) (l : Fin 768) : t.val / 4 * 768 + l.val < 6912 := by
  have := lt_of_lt_of_eq t.isLt N_0
  omega

/-- What row `r` contributes to entry `j` of the result. -/
def term (H : FVec Ideal S8192x1024 .bf16) (Q : FVec Ideal S8192x6912 .bf16) (r : Fin 8192) (j : S1024x6912.Idx) : EReal :=
  H (ix2 r (j 0)) * Q (ix2 r (j 1))

/-- The reference's entry is the sum over all rows. -/
theorem ref_entry (H : FVec Ideal S8192x1024 .bf16) (Q : FVec Ideal S8192x6912 .bf16) (j : S1024x6912.Idx) :
    val_main_v8 (F := Ideal) H Q j = ∑ r : Fin 8192, term H Q r j := by
  pointwise [term, val_main_v8, val_main_v7, val_main_v6, val_main_v3, val_main_v2, val_main_v1, val_main_v0]
  rw [Fin.sum_univ_one]
  exact Finset.sum_congr rfl fun r _ => mul_comm _ _

variable (m : (ℓ : Loc nD τ sig) → Buf (Elt Ideal) ℓ)

/-- What grid point `t` adds to its block of the result: the contributions of its 2048 rows. -/
def part (c : Dev nD) (t : Fin cfg0.N) (y : S1024x768.Idx) : EReal :=
  ∑ r : Fin 2048, term (m ((c : Thread nD τ).loc main_arg0)) (m ((c : Thread nD τ).loc main_arg1)) ⟨t.val % 4 * 2048 + r.val, row_lt t r⟩
    (ix2 (y 0) ⟨t.val / 4 * 768 + (y 1).val, col_lt t (y 1)⟩)

/-- The first point of a block clears the scratch and adds its part. -/
theorem first (c : Dev nD) (t : Fin cfg0.N) (h0 : t.val % 4 = 0) (y : S1024x768.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 4 = 0) (y : S1024x768.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 4 = 3) (y : S1024x768.Idx) :
    (outsAt0 m c t.val t.isLt).1 y = (outsAt0 m c t.val t.isLt).2 y := by
  rw [outsAt0_C m c t (by omega) h1]
  frame_out
  pointwise [k0_pay3, k0_pay2]

/-- After the run the result is the reference's. -/
theorem final (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 4 (fun _ => 0) (part m c)
    (fun t h j => first m c t h j) (fun t h j => next m c t h j) t h3 _, zero_add]
  refine Fin.sum_mul_add_congr fun s k hl => ?_
  have e1 : (4 * (t.val / 4) + s.val) % 4 = s.val := by omega
  have e2 : (4 * (t.val / 4) + s.val) / 4 = t.val / 4 := by omega
  simp only [term, e1, e2]
  blk_point [idx t]

end Cert.Kernel2Ideal.InProjWeight
-- ==== Proof.InProjInput.lean ====
/-
  The input gradient of the input projection, `dproj · w_inᵀ`: grid point `t` works on rows `1024·(t / 3) …` of the result and on
  columns `2304·(t % 3) …` of the contraction, which it adds into a scratch buffer; the last of three points writes the block.
-/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Kernel3Ideal.InProjInput

open Cert.Kernel3Ideal Cert.Kernel3Ideal.Gen Idealize.ShloMosaic Idealize.ShloMosaic.TcCoe Idealize.SL.Sem
open Idealize.ShloMosaic.Pipeline (Dat)
open Cert.Reference3Ideal.Read

/-- The block index of every window at every grid point. -/
theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

theorem lane_lt (t : Fin cfg0.N) (r : Fin 2304) : t.val % 3 * 2304 + r.val < 6912 := by
  omega

theorem row_lt (t : Fin cfg0.N) (l : Fin 1024) : t.val / 3 * 1024 + l.val < 8192 := by
  have := lt_of_lt_of_eq t.isLt N_0
  omega

/-- What lane `r` of the contraction contributes to entry `j` of the result. -/
def term (X : FVec Ideal S8192x6912 .bf16) (Y : FVec Ideal S1024x6912 .bf16) (r : Fin 6912) (j : S8192x1024.Idx) : EReal :=
  X (ix2 (j 0) r) * Y (ix2 (j 1) r)

/-- The reference's entry is the sum over the whole contraction. -/
theorem ref_entry (X : FVec Ideal S8192x6912 .bf16) (Y : FVec Ideal S1024x6912 .bf16) (j : S8192x1024.Idx) :
    val_main_v6 (F := Ideal) X Y j = ∑ r : Fin 6912, term X Y r j := by
  pointwise [term, val_main_v6, val_main_v5, val_main_v2, val_main_v1, val_main_v0]

variable (m : (ℓ : Loc nD τ sig) → Buf (Elt Ideal) ℓ)

/-- What grid point `t` adds to its block of the result: its 2304 lanes. -/
def part (c : Dev nD) (t : Fin cfg0.N) (y : S1024x1024.Idx) : EReal :=
  ∑ r : Fin 2304, term (m ((c : Thread nD τ).loc main_arg0)) (m ((c : Thread nD τ).loc main_arg1)) ⟨t.val % 3 * 2304 + r.val, lane_lt t r⟩
    (ix2 ⟨t.val / 3 * 1024 + (y 0).val, row_lt t (y 0)⟩ (y 1))

/-- The first point of a block clears the scratch and adds its part. -/
theorem first (c : Dev nD) (t : Fin cfg0.N) (h0 : t.val % 3 = 0) (y : S1024x1024.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 3 = 0) (y : S1024x1024.Idx) :
    (outsAt0 m c t.val t.isLt).2 y
      = (outsAt0 m c (t.val - 1) (Nat.lt_of_le_of_lt (Nat.sub_le _ _) t.isLt)).2 y + part m c t y := by
  by_cases h1 : t.val % 3 = 2
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 3 = 2) (y : S1024x1024.Idx) :
    (outsAt0 m c t.val t.isLt).1 y = (outsAt0 m c t.val t.isLt).2 y := by
  rw [outsAt0_C m c t (by omega) h1]
  frame_out

/-- After the run the result is the reference's. -/
theorem final (c : Dev nD) : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 3 (fun _ => 0) (part m c)
    (fun t h j => first m c t h j) (fun t h j => next m c t h j) t h3 _, zero_add]
  refine Fin.sum_mul_add_congr fun s k hl => ?_
  have e1 : (3 * (t.val / 3) + s.val) % 3 = s.val := by omega
  have e2 : (3 * (t.val / 3) + s.val) / 3 = t.val / 3 := by omega
  simp only [term, e1, e2]
  blk_point [idx t]

end Cert.Kernel3Ideal.InProjInput
-- ==== Proof.GateUpWeight.lean ====
/-
  The weight gradient of the gate (or up) half of the SwiGLU input product, `h2ᵀ · d_half`, the half's columns in four shards of 704:
  grid point `t` works on shard `t / 4` and on rows `2048·(t % 4) …` of the contraction, which it adds into a scratch buffer; the
  last of four points writes the shard.
-/
module

public import proofs.«01_k».proof.Proof.Gen.Kernel4Ideal.Frame
public import proofs.«01_k».proof.Proof.Gen.Reference4Ideal.Read
public import Idealize.ShloMosaic.Lib.Pipeline.ValueKit
public import Idealize.ShloMosaic.Lib.Pipeline.ReadBack

@[expose] public section

set_option maxRecDepth 16384

noncomputable section

namespace Cert.Kernel4Ideal.GateUpWeight

open Cert.Kernel4Ideal Cert.Kernel4Ideal.Gen Idealize.ShloMosaic Idealize.ShloMosaic.TcCoe Idealize.SL.Sem
open Idealize.ShloMosaic.Pipeline (Dat)
open Cert.Reference4Ideal.Read

/-- The block index of every window at every grid point. -/
theorem idx : ∀ t : Fin cfg0.N, win0_0.index t = ![t.val % 4, 0] ∧ win0_1.index t = ![t.val / 4, t.val % 4, 0]
    ∧ win0_2.index t = ![t.val / 4, 0, 0] :=
  (by decide +kernel : ∀ t : Fin grid0.N, _)

theorem lane_lt (t : Fin cfg0.N) (r : Fin 2048) : t.val % 4 * 2048 + r.val < 8192 := by
  omega

theorem shard_lt (t : Fin cfg0.N) : t.val / 4 < 4 := by
  have := lt_of_lt_of_eq t.isLt N_0
  omega

/-- What lane `r` of the contraction contributes to entry `j` of the result. -/
def term (X : FVec Ideal S8192x1024 .bf16) (Y : FVec Ideal S4x8192x704 .bf16) (r : Fin 8192) (j : S4x1024x704.Idx) : EReal :=
  X (ix2 r (j 1)) * Y (ix3 (j 0) r (j 2))

/-- The reference's entry is the sum over the whole contraction. -/
theorem ref_entry (X : FVec Ideal S8192x1024 .bf16) (Y : FVec Ideal S4x8192x704 .bf16) (j : S4x1024x704.Idx) :
    val_main_v11 (F := Ideal) X Y j = ∑ r : Fin 8192, term X Y r j := by
  pointwise [term, val_main_v11, val_main_v10, val_main_v9, val_main_v8, val_main_v7, val_main_v4, val_main_v3, val_main_v2, val_main_v1, val_main_v0]
  rw [Fin.sum_univ_one]
  exact Finset.sum_congr rfl fun r _ => mul_comm _ _

variable (m : (ℓ : Loc nD τ sig) → Buf (Elt Ideal) ℓ)

/-- What grid point `t` adds to its block of the result: its 2048 lanes. -/
def part (c : Dev nD) (t : Fin cfg0.N) (y : S1024x704.Idx) : EReal :=
  ∑ r : Fin 2048, term (m ((c : Thread nD τ).loc main_arg0)) (m ((c : Thread nD τ).loc main_arg1)) ⟨t.val % 4 * 2048 + r.val, lane_lt t r⟩
    (ix3 ⟨t.val / 4, shard_lt t⟩ (y 0) (y 1))

/-- The first point of a block clears the scratch and adds its part. -/
theorem first (c : Dev nD) (t : Fin cfg0.N) (h0 : t.val % 4 = 0) (y : S1024x704.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 4 = 0) (y : S1024x704.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 4 = 3) (y : S1x1024x704.Idx) :
    (outsAt0 m c t.val t.isLt).1 y = (outsAt0 m c t.val t.isLt).2 (ix2 (y 1) (y 2)) := by
  rw [outsAt0_C m c t (by omega) h1]
  frame_out
  pointwise [k0_pay3, k0_pay2]

/-- After the run the result is the reference's. -/
theorem final (c : Dev nD) : (dats m 0 c).arrAt 2 (cfgs 0).N = val_main_v11 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 4 (fun _ => 0) (part m c)
    (fun t h j => first m c t h j) (fun t h j => next m c t h j) t h3 _, zero_add]
  refine Fin.sum_mul_add_congr fun s k hl => ?_
  have e1 : (4 * (t.val / 4) + s.val) % 4 = s.val := by omega
  have e2 : (4 * (t.val / 4) + s.val) / 4 = t.val / 4 := by omega
  simp only [term, e1, e2]
  blk_point [idx t]

end Cert.Kernel4Ideal.GateUpWeight
-- ==== Proof.GateInput.lean ====
/-
  The input gradient of the gate half of the SwiGLU input product, `Σ_g d_gate[g] · w_gate[g]ᵀ` over the four column shards: each grid
  point works on 1024 rows and adds the four shards' products.
-/
module

public import proofs.«01_k».proof.Proof.Gen.Kernel5Ideal.Frame
public import proofs.«01_k».proof.Proof.Gen.Reference5Ideal.Read
public import Idealize.ShloMosaic.Lib.Pipeline.ValueKit
public import Idealize.ShloMosaic.Lib.Pipeline.ReadBack

@[expose] public section

set_option maxRecDepth 16384

noncomputable section

namespace Cert.Kernel5Ideal.GateInput

open Cert.Kernel5Ideal Cert.Kernel5Ideal.Gen Idealize.ShloMosaic Idealize.ShloMosaic.TcCoe Idealize.SL.Sem
open Idealize.ShloMosaic.Pipeline (Dat)
open Cert.Reference5Ideal.Read

/-- The block index of every window at every grid point. -/
theorem idx : ∀ t : Fin cfg0.N, win0_0.index t = ![0, t.val, 0] ∧ win0_1.index t = ![0, 0, 0] ∧ win0_2.index t = ![t.val, 0] :=
  (by decide +kernel : ∀ t : Fin grid0.N, _)

theorem row_lt (t : Fin cfg0.N) (l : Fin 1024) : t.val * 1024 + l.val < 8192 := by
  have := lt_of_lt_of_eq t.isLt N_0
  omega

/-- What lane `l` of shard `g` contributes to entry `j` of the result. -/
def term (X : FVec Ideal S4x8192x704 .bf16) (Y : FVec Ideal S4x1024x704 .bf16) (g : Fin 4) (l : Fin 704) (j : S8192x1024.Idx) : EReal :=
  X (ix3 g (j 0) l) * Y (ix3 g (j 1) l)

/-- The reference's entry: the sum over all 2816 columns is the sum over the four shards of the sums over their 704. -/
theorem ref_entry (X : FVec Ideal S4x8192x704 .bf16) (Y : FVec Ideal S4x1024x704 .bf16) (j : S8192x1024.Idx) :
    val_main_v10 (F := Ideal) X Y j = ∑ g : Fin 4, ∑ l : Fin 704, term X Y g l j := by
  pointwise [val_main_v10, val_main_v9, val_main_v6, val_main_v5, val_main_v4, val_main_v3, val_main_v2, val_main_v1, val_main_v0]
  refine (Fin.sum_mul_add_congr fun g l hl => ?_).symm
  have e1 : (g.val * 704 + l.val) / 704 = g.val := by omega
  have e2 : (g.val * 704 + l.val) % 704 = l.val := by omega
  simp only [term, e1, e2, Fin.eta]

variable (m : (ℓ : Loc nD τ sig) → Buf (Elt Ideal) ℓ)

/-- After the run the result is the reference's. -/
theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2, ref_entry]
  frame_out
  pointwise [k0_pay1, term]
  rw [Fin.sum_univ_four]
  blk_point [iblk, V, idx t]

end Cert.Kernel5Ideal.GateInput
-- ==== Proof.UpInput.lean ====
/-
  The input gradient of the SwiGLU input product, the up half added to the gate half's gradient: each grid point works on 1024 rows and
  adds the four shards' products and the other half's gradient.
-/
module

public import proofs.«01_k».proof.Proof.Gen.Kernel6Ideal.Frame
public import proofs.«01_k».proof.Proof.Gen.Reference6Ideal.Read
public import Idealize.ShloMosaic.Lib.Pipeline.ValueKit
public import Idealize.ShloMosaic.Lib.Pipeline.ReadBack

@[expose] public section

set_option maxRecDepth 16384

noncomputable section

namespace Cert.Kernel6Ideal.UpInput

open Cert.Kernel6Ideal Cert.Kernel6Ideal.Gen Idealize.ShloMosaic Idealize.ShloMosaic.TcCoe Idealize.SL.Sem
open Idealize.ShloMosaic.Pipeline (Dat)
open Cert.Reference6Ideal.Read

/-- The block index of every window at every grid point. -/
theorem idx : ∀ t : Fin cfg0.N, win0_0.index t = ![0, t.val, 0] ∧ win0_1.index t = ![0, 0, 0] ∧ win0_2.index t = ![t.val, 0] ∧ win0_3.index t = ![t.val, 0] :=
  (by decide +kernel : ∀ t : Fin grid0.N, _)

theorem row_lt (t : Fin cfg0.N) (l : Fin 1024) : t.val * 1024 + l.val < 8192 := by
  have := lt_of_lt_of_eq t.isLt N_0
  omega

/-- What lane `l` of shard `g` contributes to entry `j` of the result. -/
def term (X : FVec Ideal S4x8192x704 .bf16) (Y : FVec Ideal S4x1024x704 .bf16) (g : Fin 4) (l : Fin 704) (j : S8192x1024.Idx) : EReal :=
  X (ix3 g (j 0) l) * Y (ix3 g (j 1) l)

/-- The reference's entry: the sum over all 2816 columns is the sum over the four shards of the sums over their 704. -/
theorem ref_entry (X : FVec Ideal S4x8192x704 .bf16) (Y : FVec Ideal S4x1024x704 .bf16) (R : FVec Ideal S8192x1024 .f32) (j : S8192x1024.Idx) :
    val_main_v12 (F := Ideal) X Y R j = (∑ g : Fin 4, ∑ l : Fin 704, term X Y g l j) + R (ix2 (j 0) (j 1)) := by
  pointwise [val_main_v12, val_main_v11, val_main_v10, val_main_v9, val_main_v6, val_main_v5, val_main_v4, val_main_v3, val_main_v2, val_main_v1, val_main_v0]
  congr 1
  refine (Fin.sum_mul_add_congr fun g l hl => ?_).symm
  have e1 : (g.val * 704 + l.val) / 704 = g.val := by omega
  have e2 : (g.val * 704 + l.val) % 704 = l.val := by omega
  simp only [term, e1, e2, Fin.eta]

variable (m : (ℓ : Loc nD τ sig) → Buf (Elt Ideal) ℓ)

/-- After the run the result is the reference's. -/
theorem final (c : Dev nD) : (dats m 0 c).arrAt 3 (cfgs 0).N = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, ref_entry]
  frame_out
  pointwise [k0_pay1, term]
  rw [Fin.sum_univ_four]
  blk_point [iblk, V, idx t]

end Cert.Kernel6Ideal.UpInput
-- ==== Proof.DownWeight.lean ====
/-
  The weight gradient of the SwiGLU output product, `actᵀ · dx`, the rows of the result in four shards of 704: eight blocks of
  512 columns, grid point `t` working on block `t / 4` (shard `t / 8`, columns `512·(t / 4 % 2) …`) and on rows `2048·(t % 4) …` of
  the contraction, which it adds into a scratch buffer; the last of four points writes the block.
-/
module

public import proofs.«01_k».proof.Proof.Gen.Kernel7Ideal.Frame
public import proofs.«01_k».proof.Proof.Gen.Reference7Ideal.Read
public import Idealize.ShloMosaic.Lib.Pipeline.ValueKit
public import Idealize.ShloMosaic.Lib.Pipeline.ReadBack

@[expose] public section

set_option maxRecDepth 16384

noncomputable section

namespace Cert.Kernel7Ideal.DownWeight

open Cert.Kernel7Ideal Cert.Kernel7Ideal.Gen Idealize.ShloMosaic Idealize.ShloMosaic.TcCoe Idealize.SL.Sem
open Idealize.ShloMosaic.Pipeline (Dat)
open Cert.Reference7Ideal.Read

/-- The block index of every window at every grid point. -/
theorem idx : ∀ t : Fin cfg0.N, win0_0.index t = ![t.val / 8, t.val % 4, 0] ∧ win0_1.index t = ![t.val % 4, t.val / 4 % 2]
    ∧ win0_2.index t = ![t.val / 8, 0, t.val / 4 % 2] :=
  (by decide +kernel : ∀ t : Fin grid0.N, _)

theorem lane_lt (t : Fin cfg0.N) (r : Fin 2048) : t.val % 4 * 2048 + r.val < 8192 := by
  omega

theorem shard_lt (t : Fin cfg0.N) : t.val / 8 < 4 := by
  have := lt_of_lt_of_eq t.isLt N_0
  omega

theorem col_lt (t : Fin cfg0.N) (l : Fin 512) : t.val / 4 % 2 * 512 + l.val < 1024 := by
  omega

/-- What lane `r` of the contraction contributes to entry `j` of the result. -/
def term (X : FVec Ideal S4x8192x704 .bf16) (Y : FVec Ideal S8192x1024 .f32) (r : Fin 8192) (j : S4x704x1024.Idx) : EReal :=
  X (ix3 (j 0) r (j 1)) * Y (ix2 r (j 2))

/-- The reference's entry is the sum over the whole contraction. -/
theorem ref_entry (X : FVec Ideal S4x8192x704 .bf16) (Y : FVec Ideal S8192x1024 .f32) (j : S4x704x1024.Idx) :
    val_main_v10 (F := Ideal) X Y j = ∑ r : Fin 8192, term X Y r j := by
  pointwise [term, val_main_v10, val_main_v9, val_main_v8, val_main_v7, val_main_v4, val_main_v3, val_main_v2, val_main_v1, val_main_v0]
  rw [Fin.sum_univ_one]
  exact Finset.sum_congr rfl fun r _ => mul_comm _ _

variable (m : (ℓ : Loc nD τ sig) → Buf (Elt Ideal) ℓ)

/-- What grid point `t` adds to its block of the result: its 2048 lanes. -/
def part (c : Dev nD) (t : Fin cfg0.N) (y : S704x512.Idx) : EReal :=
  ∑ r : Fin 2048, term (m ((c : Thread nD τ).loc main_arg0)) (m ((c : Thread nD τ).loc main_arg1)) ⟨t.val % 4 * 2048 + r.val, lane_lt t r⟩
    (ix3 ⟨t.val / 8, shard_lt t⟩ (y 0) ⟨t.val / 4 % 2 * 512 + (y 1).val, col_lt t (y 1)⟩)

/-- The first point of a block clears the scratch and adds its part. -/
theorem first (c : Dev nD) (t : Fin cfg0.N) (h0 : t.val % 4 = 0) (y : S704x512.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 4 = 0) (y : S704x512.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 4 = 3) (y : S1x704x512.Idx) :
    (outsAt0 m c t.val t.isLt).1 y = (outsAt0 m c t.val t.isLt).2 (ix2 (y 1) (y 2)) := by
  rw [outsAt0_C m c t (by omega) h1]
  frame_out
  pointwise [k0_pay3, k0_pay2]

/-- After the run the result is the reference's. -/
theorem final (c : Dev nD) : (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 4 (fun _ => 0) (part m c)
    (fun t h j => first m c t h j) (fun t h j => next m c t h j) t h3 _, zero_add]
  refine Fin.sum_mul_add_congr fun s k hl => ?_
  have e1 : (4 * (t.val / 4) + s.val) % 4 = s.val := by omega
  have e2 : (4 * (t.val / 4) + s.val) / 8 = t.val / 8 := by omega
  have e3 : (4 * (t.val / 4) + s.val) / 4 = t.val / 4 := by omega
  simp only [term, e1, e2, e3]
  blk_point [idx t]

end Cert.Kernel7Ideal.DownWeight
-- ==== Proof.OutProjInput.lean ====
/-
  The input gradient of the output projection, `dx · w_outᵀ`: each grid point works on 1024 rows.
-/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Pipeline.ReadBack

@[expose] public section

set_option maxRecDepth 16384

noncomputable section

namespace Cert.Kernel8Ideal.OutProjInput

open Cert.Kernel8Ideal Cert.Kernel8Ideal.Gen Idealize.ShloMosaic Idealize.ShloMosaic.TcCoe Idealize.SL.Sem
open Idealize.ShloMosaic.Pipeline (Dat)
open Cert.Reference8Ideal.Read

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- After the run the result is the reference's. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v5, val_main_v4, val_main_v1, val_main_v0]
  blk_point [iblk, V, idx t]

end Cert.Kernel8Ideal.OutProjInput
-- ==== Proof.OutProjWeight.lean ====
/-
  The weight gradient of the output projection, `mergedᵀ · dx`: the result is one block; grid point `t` adds the products of rows
  `2048·t …` into a scratch buffer, and the last of four points writes it out.
-/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Pipeline.ReadBack

@[expose] public section

set_option maxRecDepth 16384

noncomputable section

namespace Cert.Kernel9Ideal.OutProjWeight

open Cert.Kernel9Ideal Cert.Kernel9Ideal.Gen Idealize.ShloMosaic Idealize.ShloMosaic.TcCoe Idealize.SL.Sem
open Idealize.ShloMosaic.Pipeline (Dat)
open Cert.Reference9Ideal.Read

/-- The block index of every window at every grid point. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem lane_lt (t : Fin cfg0.N) (r : Fin 2048) : t.val % 4 * 2048 + r.val < 8192 := by
  omega

/-- What lane `r` of the contraction contributes to entry `j` of the result. -/
def term (X : FVec Ideal S8192x1024 .bf16) (Y : FVec Ideal S8192x1024 .f32) (r : Fin 8192) (j : S1024x1024.Idx) : EReal :=
  X (ix2 r (j 0)) * Y (ix2 r (j 1))

/-- The reference's entry is the sum over the whole contraction. -/
theorem ref_entry (X : FVec Ideal S8192x1024 .bf16) (Y : FVec Ideal S8192x1024 .f32) (j : S1024x1024.Idx) :
    val_main_v7 (F := Ideal) X Y j = ∑ r : Fin 8192, term X Y r j := by
  pointwise [term, val_main_v7, val_main_v6, val_main_v5, val_main_v2, val_main_v1, val_main_v0]
  rw [Fin.sum_univ_one]
  exact Finset.sum_congr rfl fun r _ => mul_comm _ _

variable (m : (ℓ : Loc nD τ sig) → Buf (Elt Ideal) ℓ)

/-- What grid point `t` adds to its block of the result: its 2048 lanes. -/
def part (c : Dev nD) (t : Fin cfg0.N) (y : S1024x1024.Idx) : EReal :=
  ∑ r : Fin 2048, term (m ((c : Thread nD τ).loc main_arg0)) (m ((c : Thread nD τ).loc main_arg1)) ⟨t.val % 4 * 2048 + r.val, lane_lt t r⟩
    (ix2 (y 0) (y 1))

/-- The first point of a block clears the scratch and adds its part. -/
theorem first (c : Dev nD) (t : Fin cfg0.N) (h0 : t.val % 4 = 0) (y : S1024x1024.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 4 = 0) (y : S1024x1024.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 4 = 3) (y : S1024x1024.Idx) :
    (outsAt0 m c t.val t.isLt).1 y = (outsAt0 m c t.val t.isLt).2 y := by
  rw [outsAt0_C m c t (by omega) h1]
  frame_out
  pointwise [k0_pay3, k0_pay2]

/-- After the run the result is the reference's. -/
theorem final (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 4 (fun _ => 0) (part m c)
    (fun t h j => first m c t h j) (fun t h j => next m c t h j) t h3 _, zero_add]
  refine Fin.sum_mul_add_congr fun s k hl => ?_
  have e1 : (4 * (t.val / 4) + s.val) % 4 = s.val := by omega
  simp only [term, e1]
  blk_point [idx t]

end Cert.Kernel9Ideal.OutProjWeight
-- ==== Proof.UnitSums.lean ====
/-
  Host sums over axes of extent 1, at one result index.
-/
module

public import Idealize.ShloMosaic.Lib.Pipeline.ValueKit

@[expose] public section

noncomputable section

namespace Cert.UnitSums

open Idealize.ShloMosaic

/-- When exactly one operand index drops to `j`, the host's sum at `j` is the initial value plus that element. -/
theorem hostReduceAdd_single {s t : Shape} {axes : List (Fin s.rank)} (h : s.ReducesTo axes t) (v : s.Idx → EReal) (init : EReal)
    (j : t.Idx) (i₀ : s.Idx) (hu : ∀ i, h.drop i = j ↔ i = i₀) : Ideal.hostReduceAdd h v init j = init + v i₀ := by
  refine congrArg (init + ·) ?_
  rw [show (Finset.univ.filter fun i => h.drop i = j) = {i₀} from by ext i; simp [hu i], Finset.sum_singleton]

/-- A `1 × n × 1` array summed over its first and last axes is its column. -/
theorem hostReduceAdd_column {n : Nat} (h : (⟨3, ![1, n, 1]⟩ : Shape).ReducesTo [0, 2] ⟨1, ![n]⟩) (v : (⟨3, ![1, n, 1]⟩ : Shape).Idx → EReal)
    (init : EReal) (j : (⟨1, ![n]⟩ : Shape).Idx) : Ideal.hostReduceAdd h v init j = init + v (ix3 0 (j 0) 0) := by
  refine hostReduceAdd_single h v init j _ fun i => ⟨fun e => ?_, fun e => ?_⟩
  · funext a
    match a with
    | ⟨0, _⟩ => exact Subsingleton.elim (α := Fin 1) _ _
    | ⟨1, _⟩ => exact Fin.ext (congrArg Fin.val (congrFun e 0))
    | ⟨2, _⟩ => exact Subsingleton.elim (α := Fin 1) _ _
  · subst e
    funext b
    match b with
    | ⟨0, _⟩ => rfl

/-- A `1 × 1 × n` array summed over its first two axes is its row. -/
theorem hostReduceAdd_row {n : Nat} (h : (⟨3, ![1, 1, n]⟩ : Shape).ReducesTo [0, 1] ⟨1, ![n]⟩) (v : (⟨3, ![1, 1, n]⟩ : Shape).Idx → EReal)
    (init : EReal) (j : (⟨1, ![n]⟩ : Shape).Idx) : Ideal.hostReduceAdd h v init j = init + v (ix3 0 0 (j 0)) := by
  refine hostReduceAdd_single h v init j _ fun i => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
  · subst e
    funext b
    match b with
    | ⟨0, _⟩ => rfl

end Cert.UnitSums
-- ==== Proof.NormGrad.lean ====
/-
  The gradient of the RMS norm: each grid point works on 1024 rows, and adds its rows to the scale's gradient.
-/
module

public import proofs.«01_k».proof.Proof.Gen.Kernel10Ideal.Frame
public import proofs.«01_k».proof.Proof.Gen.Reference10Ideal.Read
public import proofs.«01_k».proof.Proof.UnitSums
public import Idealize.ShloMosaic.Lib.Pipeline.ValueKit
public import Idealize.ShloMosaic.Lib.Pipeline.ReadBack

@[expose] public section

set_option maxRecDepth 16384

noncomputable section

namespace Cert.Kernel10Ideal.NormGrad

open Cert.Kernel10Ideal Cert.Kernel10Ideal.Gen Idealize.ShloMosaic Idealize.ShloMosaic.TcCoe Idealize.SL.Sem
open Idealize.ShloMosaic.Pipeline (Dat)
open Cert.Reference10Ideal.Read

/-- The block index of every window at every grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, _)

/-- The kernel adds the residual's gradient last, the reference first. -/
theorem last_first (a b c d : EReal) : a + b + c + d = d + a + b + c := by
  rw [add_comm, ← add_assoc, ← add_assoc]

/-- What row `r` contributes to the gradient of the scale: its normalised entry times its output gradient. -/
def rowTerm (X : FVec Ideal S8192x1024 .f32) (DH : FVec Ideal S8192x1024 .bf16) (r : Fin 8192) (j : S1x1024.Idx) : EReal :=
  val_main_v21 (F := Ideal) X DH (ix3 0 r (j 1))

/-- The reference's gradient of the scale is the sum of the rows' contributions. -/
theorem ref_scale (X : FVec Ideal S8192x1024 .f32) (DH : FVec Ideal S8192x1024 .bf16) (j : S1x1024.Idx) :
    val_main_v44 (F := Ideal) X DH j = ∑ r : Fin 8192, rowTerm X DH r j := by
  pointwise [val_main_v44, val_main_v26, val_main_v23, val_main_v22, val_main_cst_3, val_main_cst_4,
    UnitSums.hostReduceAdd_row]
  rfl

variable (m : (ℓ : Loc nD τ sig) → Buf (Elt Ideal) ℓ)

theorem row_lt (t : Fin cfg0.N) (r : Fin 1024) : t.val * 1024 + r.val < 8192 := by
  have := lt_of_lt_of_eq t.isLt N_0
  omega

/-- What grid point `t` adds: the contributions of its 1024 rows. -/
def part (c : Dev nD) (t : Fin cfg0.N) (j : S1x1024.Idx) : EReal :=
  ∑ r : Fin 1024, rowTerm (m ((c : Thread nD τ).loc main_arg0)) (m ((c : Thread nD τ).loc main_arg2)) ⟨t.val * 1024 + r.val, row_lt t r⟩ j

set_option maxHeartbeats 1600000 in
/-- The first point clears the buffer and adds its rows. -/
theorem scale_first (c : Dev nD) (t : Fin cfg0.N) (h0 : t.val % 8 = 0) (y : S1x1024.Idx) :
    (outsAt0 m c t.val t.isLt).2 y = 0 + part m c t y := by
  rw [outsAt0_A m c t h0]
  frame_open
  simp (disch := decide) only [↓ View.readCov_skip, ↓ View.readCov_cons_toLoadRect, ↓ View.readCov_fill]
  frame_out
  pointwise [part, rowTerm, k0_pay2, k0_pay3, k0_pay7, k0_pay5, k0_pay6, k0_pay4,
    val_main_v21, val_main_v14, val_main_v19, val_main_v0, val_main_v13, val_main_v18, val_main_v9, val_main_v8,
    val_main_v6, val_main_v7, val_main_v4, val_main_v5, val_main_cst_1, val_main_v3, val_main_cst_0, val_main_v2,
    val_main_cst]
  blk_point [iblk, V, idx t]

set_option maxHeartbeats 1600000 in
/-- A later point adds its rows to what the point before left. -/
theorem scale_next (c : Dev nD) (t : Fin cfg0.N) (h0 : ¬ t.val % 8 = 0) (y : S1x1024.Idx) :
    (outsAt0 m c t.val t.isLt).2 y
      = (outsAt0 m c (t.val - 1) (Nat.lt_of_le_of_lt (Nat.sub_le _ _) t.isLt)).2 y + part m c t y := by
  rw [outsAt0_B m c t h0]
  frame_out
  pointwise [part, rowTerm, k0_pay2, k0_pay3, k0_pay7, k0_pay5, k0_pay6, k0_pay4,
    val_main_v21, val_main_v14, val_main_v19, val_main_v0, val_main_v13, val_main_v18, val_main_v9, val_main_v8,
    val_main_v6, val_main_v7, val_main_v4, val_main_v5, val_main_cst_1, val_main_v3, val_main_cst_0, val_main_v2,
    val_main_cst]
  blk_point [iblk, V, idx t]

/-- After the run the gradient of the scale is the reference's. -/
theorem final_scale (c : Dev nD) : (dats m 0 c).arrAt 5 (cfgs 0).N = val_main_v44 (F := Ideal) (m ((c : Thread nD τ).loc main_arg0)) (m ((c : Thread nD τ).loc main_arg2)) := by
  refine (dats m 0 c).arrAt_eq_of_after_last 5 t0_7 (by decide +kernel) _ fun j => ?_
  blk_simp
  rw [after0_5, ref_scale]
  refine (Pipeline.eq_sum_fin_of_reset_step_apply_last (fun n h => (outsAt0 m c n h).2) 8 (fun _ => 0) (part m c)
    (fun t h j => scale_first m c t h j) (fun t h j => scale_next m c t h j) (le_of_eq N_0) t0_7 rfl j).trans ?_
  rw [zero_add]
  exact Fin.sum_mul_add_congr fun s k hl => rfl

set_option maxHeartbeats 3200000 in
/-- After the run the gradient of the norm's argument is the reference's. -/
theorem final_input (c : Dev nD) : (dats m 0 c).arrAt 4 (cfgs 0).N = val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 8 = 0
  · rw [outsAt0_A m c t h0]
    frame_out
    pointwise [k0_pay1, k0_pay2, k0_pay3, k0_pay4, k0_pay5, k0_pay6, k0_pay7, k0_pay8, UnitSums.hostReduceAdd_column,
    UnitSums.hostReduceAdd_row,
      val_main_v43, val_main_v42, val_main_v40, val_main_v41, val_main_v32, val_main_v39, val_main_v38, val_main_v0,
      val_main_v20, val_main_v31, val_main_v37, val_main_v25, val_main_v30, val_main_v36, val_main_v19, val_main_v24,
      val_main_v9, val_main_v35, val_main_cst_7, val_main_v18, val_main_v15, val_main_v8, val_main_v33, val_main_v34,
      val_main_v1, val_main_v6, val_main_v7, val_main_v29, val_main_v12, val_main_cst_6, val_main_v4, val_main_v5,
      val_main_cst_1, val_main_v28, val_main_v11, val_main_v10, val_main_v3, val_main_cst_0, val_main_v27, val_main_cst_5,
      val_main_cst_2, val_main_v2, val_main_cst]
    simp only [Fin.sum_univ_one]
    refine (last_first _ _ _ _).trans ?_
    blk_point [iblk, V, idx t]
  · rw [outsAt0_B m c t h0]
    frame_out
    pointwise [k0_pay1, k0_pay2, k0_pay3, k0_pay4, k0_pay5, k0_pay6, k0_pay7, k0_pay8, UnitSums.hostReduceAdd_column,
    UnitSums.hostReduceAdd_row,
      val_main_v43, val_main_v42, val_main_v40, val_main_v41, val_main_v32, val_main_v39, val_main_v38, val_main_v0,
      val_main_v20, val_main_v31, val_main_v37, val_main_v25, val_main_v30, val_main_v36, val_main_v19, val_main_v24,
      val_main_v9, val_main_v35, val_main_cst_7, val_main_v18, val_main_v15, val_main_v8, val_main_v33, val_main_v34,
      val_main_v1, val_main_v6, val_main_v7, val_main_v29, val_main_v12, val_main_cst_6, val_main_v4, val_main_v5,
      val_main_cst_1, val_main_v28, val_main_v11, val_main_v10, val_main_v3, val_main_cst_0, val_main_v27, val_main_cst_5,
      val_main_cst_2, val_main_v2, val_main_cst]
    simp only [Fin.sum_univ_one]
    refine (last_first _ _ _ _).trans ?_
    blk_point [iblk, V, idx t]

end Cert.Kernel10Ideal.NormGrad
-- ==== Proof.Finite.lean ====
/-
  Real (finite) extended reals, as the preconditions state them, and the two forms of the gradient of `silu`.
-/
module

public import Idealize.ShloMosaic.Lib.Pipeline.ValueKit
public import Idealize.ShloMosaic.Lib.ReduceAll
public import Idealize.ShloMosaic.Lib.Affine

@[expose] public section

noncomputable section

namespace Cert.Finite

open Idealize.ShloMosaic

/-- The value is a real number, neither infinity. -/
def IsReal (x : EReal) : Prop := ∃ r : ℝ, x = r

/-- Strictly between the infinities is real. -/
theorem isReal_of_lt {x : EReal} (h : x < ⊤) (h' : ⊥ < x) : IsReal x :=
  ⟨x.toReal, (EReal.coe_toReal h.ne h'.ne').symm⟩

theorem IsReal.mul {x y : EReal} : IsReal x → IsReal y → IsReal (x * y) := by
  rintro ⟨a, rfl⟩ ⟨b, rfl⟩
  exact ⟨a * b, (EReal.coe_mul a b).symm⟩

theorem IsReal.add {x y : EReal} : IsReal x → IsReal y → IsReal (x + y) := by
  rintro ⟨a, rfl⟩ ⟨b, rfl⟩
  exact ⟨a + b, (EReal.coe_add a b).symm⟩

/-- A finite sum of real numbers is real. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The two comparisons the preconditions make, read at one element. -/
theorem isReal_of_cmp {x : EReal} (h : IntOp.andi (Ideal.cmp .olt x ⊤) (Ideal.cmp .ogt x ⊥) = 1#1) : IsReal x := by
  obtain ⟨h1, h2⟩ := IntOp.andi_eq_one.1 h
  refine isReal_of_lt ?_ ?_
  · by_contra hn
    simp [Ideal.cmp, hn] at h1
  · by_contra hn
    simp [Ideal.cmp, hn] at h2

/-- For a real cotangent `c` the derivative of `g · σ(g)`, summed by the product rule, is `c · σ · (1 + g · (1 − σ))`; at
    the infinite gates `σ` is 0 or 1 and both forms take its value. -/
theorem silu_grad (c g : EReal) (hc : IsReal c) :
    c * Ideal.div 1 (1 + Ideal.exp (-g))
        + g * c * (Ideal.div 1 (1 + Ideal.exp (-g)) * (1 - Ideal.div 1 (1 + Ideal.exp (-g))))
      = c * Ideal.div 1 (1 + Ideal.exp (-g)) * (1 + g * (1 - Ideal.div 1 (1 + Ideal.exp (-g)))) := by
  obtain ⟨c, rfl⟩ := hc
  change (c : EReal) * Ideal.logistic g + g * c * (Ideal.logistic g * (1 - Ideal.logistic g))
    = c * Ideal.logistic g * (1 + g * (1 - Ideal.logistic g))
  have h1 : (1 : EReal) - 1 = 0 := by rw [← EReal.coe_one, ← EReal.coe_sub, sub_self, EReal.coe_zero]
  induction g with
  | bot => simp
  | top => simp [h1]
  | coe r =>
    rw [Ideal.logistic_coe, ← EReal.coe_one]
    simp only [← EReal.coe_mul, ← EReal.coe_sub, ← EReal.coe_add]
    congr 1
    ring

end Cert.Finite
-- ==== Proof.SwiGluGrad.lean ====
/-
  The gradients of the SwiGLU gate and up half: grid point `t` works on shard `t % 4` of 1024 rows.
-/
module

public import proofs.«01_k».proof.Proof.Gen.Kernel12Ideal.Frame
public import proofs.«01_k».proof.Proof.Gen.Reference12Ideal.Read
public import proofs.«01_k».proof.Proof.Finite
public import proofs.«01_k».proof.Proof.Gen.Pre_finite12
public import Idealize.ShloMosaic.Lib.Pipeline.ValueKit
public import Idealize.ShloMosaic.Lib.Pipeline.ReadBack

@[expose] public section

set_option maxRecDepth 16384

noncomputable section

namespace Cert.Kernel12Ideal.SwiGluGrad

open Cert.Kernel12Ideal Cert.Kernel12Ideal.Gen Idealize.ShloMosaic Idealize.ShloMosaic.TcCoe Idealize.SL.Sem
open Idealize.ShloMosaic.Pipeline (Dat)
open Cert.Reference12Ideal.Read

/-- The block index of every window at every grid point. -/
theorem idx : ∀ t : Fin cfg0.N, win0_0.index t = ![t.val / 4, 0] ∧ win0_1.index t = ![t.val % 4, 0, 0] ∧ win0_2.index t = ![t.val % 4, t.val / 4, 0]
    ∧ win0_3.index t = ![t.val % 4, t.val / 4, 0] ∧ win0_4.index t = ![t.val % 4, t.val / 4, 0]
    ∧ win0_5.index t = ![t.val % 4, t.val / 4, 0] :=
  (by decide +kernel : ∀ t : Fin grid0.N, _)

/-- What the two bit patterns of the precondition's bounds denote. -/
theorem ofBits_inf : Ideal.ofBits .f32 0x7F800000#32 = ⊤ ∧ Ideal.ofBits .f32 0xFF800000#32 = ⊥ := by
  simp [Ideal.ofBits, Ideal.ieee]

/-- The precondition: the entries of the output gradient, of the weight and of the up half are real numbers. -/
theorem real_of_pre (DX : FVec Ideal Cert.Pre_finite12.S8192x1024 .f32) (WD : FVec Ideal Cert.Pre_finite12.S4x704x1024 .bf16)
    (G U : FVec Ideal Cert.Pre_finite12.S4x8192x704 .bf16) (h : Cert.Pre_finite12.fn (F := Ideal) DX WD G U = fun _ => 1#1) :
    (∀ i, Finite.IsReal (DX i)) ∧ (∀ i, Finite.IsReal (WD i)) ∧ ∀ i, Finite.IsReal (U i) := by
  have e := congrFun h (fun a => a.elim0)
  simp only [Cert.Pre_finite12.fn, Cert.Pre_finite12.fn_part1, andi] at e
  obtain ⟨e12, e3⟩ := IntOp.andi_eq_one.1 e
  obtain ⟨e1, e2⟩ := IntOp.andi_eq_one.1 e12
  have : Subsingleton Cert.Pre_finite12.S_.Idx := ⟨fun a b => funext fun x => x.elim0⟩
  refine ⟨fun i => ?_, fun i => ?_, fun i => ?_⟩
  · have := Host.reduce_andi_all _ _ _ _ _ e1 i
    exact Finite.isReal_of_cmp (by rw [← ofBits_inf.1, ← ofBits_inf.2]; exact this)
  · have := Host.reduce_andi_all _ _ _ _ _ e2 i
    exact Finite.isReal_of_cmp (by rw [← ofBits_inf.1, ← ofBits_inf.2]; exact this)
  · have := Host.reduce_andi_all _ _ _ _ _ e3 i
    exact Finite.isReal_of_cmp (by rw [← ofBits_inf.1, ← ofBits_inf.2]; exact this)

variable (m : (ℓ : Loc nD τ sig) → Buf (Elt Ideal) ℓ)

/-- After the run the up half's gradient is the reference's. -/
theorem final_up (c : Dev nD) : (dats m 0 c).arrAt 5 (cfgs 0).N = val_main_v25 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, k0_pay6, k0_pay2, k0_pay3, k0_pay4, val_main_v25, val_main_v24, val_main_v23, val_main_v22, val_main_v15,
    val_main_v10_0, val_main_v14, val_main_v5, val_main_v10_2, val_main_v13, val_main_v1, val_main_v4, val_main_call0_v4,
    val_main_call0_v3, val_main_v0, val_main_v3, val_main_call0_cst_0, val_main_call0_v2, val_main_call0_v1, val_main_v2,
    val_main_call0_cst, val_main_call0_v0]
  simp only [zero_sub]
  rw [mul_assoc, mul_comm]
  blk_point [iblk, V, idx t]

/-- After the run the gate's gradient is the reference's. -/
theorem final_gate (c : Dev nD)
    (h : Cert.Pre_finite12.fn (F := Ideal) (m ((c : Thread nD τ).loc main_arg0)) (m ((c : Thread nD τ).loc main_arg1)) (m ((c : Thread nD τ).loc main_arg2)) (m ((c : Thread nD τ).loc main_arg3)) = fun _ => 1#1) :
    (dats m 0 c).arrAt 4 (cfgs 0).N = val_main_v21 (F := Ideal) (m ((c : Thread nD τ).loc main_arg0)) (m ((c : Thread nD τ).loc main_arg1)) (m ((c : Thread nD τ).loc main_arg2)) (m ((c : Thread nD τ).loc main_arg3)) := by
  obtain ⟨hx, hw, hu⟩ := real_of_pre _ _ _ _ h
  refine (dats m 0 c).arrAt_eq_of_covers 4 _ (by decide +kernel) fun t hf y => ?_
  blk_simp
  rw [after0_4]
  frame_out
  pointwise [k0_pay5, k0_pay2, k0_pay4, k0_pay3, val_main_v21, val_main_v20, val_main_v19, val_main_v18, val_main_v17,
    val_main_call1_v1, val_main_call1_v2, val_main_v16, val_main_v10_2, val_main_call1_v0, val_main_v10_1, val_main_v14,
    val_main_v9, val_main_call0_v4, val_main_call0_v3, val_main_v5, val_main_call0_v7, val_main_v13, val_main_v1,
    val_main_v8, val_main_call0_cst_0, val_main_call0_v2, val_main_call0_v1, val_main_v4, val_main_call0_v6, val_main_v0,
    val_main_v7, val_main_call0_cst, val_main_call0_v0, val_main_v3, val_main_call0_cst_1, val_main_v6, val_main_v2]
  simp only [zero_sub]
  rw [Finite.silu_grad _ _ ((Finite.isReal_sum _ _ fun l => (hx _).mul (hw _)).mul (hu _))]
  blk_point [iblk, V, idx t]

end Cert.Kernel12Ideal.SwiGluGrad
-- ==== Proof.InProjForward.lean ====
/-
  The input projection `h · w_in`: each grid point writes one 1024 × 768 block of the product.
-/
module

public import proofs.«01_k».proof.Proof.Gen.Kernel14Ideal.Frame
public import proofs.«01_k».proof.Proof.Gen.Reference14Ideal.Read
public import Idealize.ShloMosaic.Lib.Pipeline.ValueKit
public import Idealize.ShloMosaic.Lib.Pipeline.ReadBack

@[expose] public section

set_option maxRecDepth 16384

noncomputable section

namespace Cert.Kernel14Ideal.InProjForward

open Cert.Kernel14Ideal Cert.Kernel14Ideal.Gen Idealize.ShloMosaic Idealize.ShloMosaic.TcCoe Idealize.SL.Sem
open Idealize.ShloMosaic.Pipeline (Dat)
open Cert.Reference14Ideal.Read

/-- The block index of every window at every grid point. -/
theorem idx : ∀ t : Fin cfg0.N, win0_0.index t = ![t.val / 9, 0] ∧ win0_1.index t = ![0, t.val % 9] ∧ win0_2.index t = ![t.val / 9, t.val % 9] :=
  (by decide +kernel : ∀ t : Fin grid0.N, _)

variable (m : (ℓ : Loc nD τ sig) → Buf (Elt Ideal) ℓ)

/-- After the run the result is the reference's. -/
theorem final (c : Dev nD) : (dats m 0 c).arrAt 2 (cfgs 0).N = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v5, val_main_v4, val_main_v3, val_main_v1, val_main_v2, val_main_v0]
  blk_point [iblk, V, idx t]

end Cert.Kernel14Ideal.InProjForward
-- ==== Proof.GateUpForward.lean ====
/-
  The SwiGLU input product: grid point `t` writes shard `t % 4` of 1024 rows of the gate, the up half and `silu gate · up`.
-/
module

public import proofs.«01_k».proof.Proof.Gen.Kernel15Ideal.Frame
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

namespace Cert.Kernel15Ideal.GateUpForward

open Cert.Kernel15Ideal Cert.Kernel15Ideal.Gen Idealize.ShloMosaic Idealize.ShloMosaic.TcCoe Idealize.SL.Sem
open Idealize.ShloMosaic.Pipeline (Dat)
open Cert.Reference15Ideal.Read

/-- The block index of every window at every grid point. -/
theorem idx : ∀ t : Fin cfg0.N, win0_0.index t = ![t.val / 4, 0] ∧ win0_1.index t = ![t.val % 4, 0, 0]
    ∧ win0_2.index t = ![4 + t.val % 4, 0, 0] ∧ win0_3.index t = ![t.val % 4, t.val / 4, 0]
    ∧ win0_4.index t = ![t.val % 4, t.val / 4, 0] ∧ win0_5.index t = ![t.val % 4, t.val / 4, 0] :=
  (by decide +kernel : ∀ t : Fin grid0.N, _)

variable (m : (ℓ : Loc nD τ sig) → Buf (Elt Ideal) ℓ)

/-- After the run the result is the reference's. -/
theorem final_gate (c : Dev nD) : (dats m 0 c).arrAt 3 (cfgs 0).N = val_main_v11 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  frame_out
  pointwise [k0_pay3, k0_pay1, val_main_v11, val_main_v10, val_main_v9, val_main_v8, val_main_v6, val_main_v5, val_main_v1,
    val_main_v4, val_main_v0, val_main_v3, val_main_v2]
  blk_point [iblk, V, idx t]
/-- After the run the result is the reference's. -/
theorem final_up (c : Dev nD) : (dats m 0 c).arrAt 4 (cfgs 0).N = val_main_v15 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay4, k0_pay2, val_main_v15, val_main_v14, val_main_v13, val_main_v12, val_main_v7, val_main_v5, val_main_v1,
    val_main_v4, val_main_v0, val_main_v3, val_main_v2]
  blk_point [iblk, V, idx t]
/-- After the run the result is the reference's. -/
theorem final_act (c : Dev nD) : (dats m 0 c).arrAt 5 (cfgs 0).N = val_main_v21 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  frame_out
  pointwise [k0_pay5, k0_pay1, k0_pay2, val_main_v21, val_main_v20, val_main_v19, val_main_v18, val_main_v17, val_main_v16,
    val_main_v7, val_main_v6, val_main_call0_v5, val_main_v5, val_main_call0_v4, val_main_call0_v3, val_main_v1,
    val_main_v4, val_main_call0_cst_0, val_main_call0_v2, val_main_call0_v1, val_main_v0, val_main_v3, val_main_call0_cst,
    val_main_call0_v0, val_main_v2]
  simp only [zero_sub]
  blk_point [iblk, V, idx t]

end Cert.Kernel15Ideal.GateUpForward
-- ==== Proof.DownForward.lean ====
/-
  The SwiGLU output product with the residual, `x + Σ_g act[g] · w_down[g]` over four shards: each grid point works on 1024 rows.
-/
module

public import proofs.«01_k».proof.Proof.Gen.Kernel16Ideal.Frame
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.Kernel16Ideal.DownForward

open Cert.Kernel16Ideal Cert.Kernel16Ideal.Gen Idealize.ShloMosaic Idealize.ShloMosaic.TcCoe Idealize.SL.Sem
open Idealize.ShloMosaic.Pipeline (Dat)
open Cert.Reference16Ideal.Read

/-- The block index of every window at every grid point. -/
theorem idx : ∀ t : Fin cfg0.N, win0_0.index t = ![0, t.val, 0] ∧ win0_1.index t = ![0, 0, 0] ∧ win0_2.index t = ![t.val, 0]
    ∧ win0_3.index t = ![t.val, 0] :=
  (by decide +kernel : ∀ t : Fin grid0.N, _)

/-- What lane `l` of shard `g` contributes to entry `j` of the product. -/
def term (X : FVec Ideal S4x8192x704 .bf16) (Y : FVec Ideal S4x704x1024 .bf16) (g : Fin 4) (l : Fin 704) (j : S8192x1024.Idx) : EReal :=
  X (ix3 g (j 0) l) * Y (ix3 g l (j 1))

/-- The reference's entry: the sum over all 2816 columns is the sum over the four shards of the sums over their 704. -/
theorem ref_entry (X : FVec Ideal S4x8192x704 .bf16) (Y : FVec Ideal S4x704x1024 .bf16) (R : FVec Ideal S8192x1024 .f32) (j : S8192x1024.Idx) :
    val_main_v9 (F := Ideal) X Y R j = R j + ∑ g : Fin 4, ∑ l : Fin 704, term X Y g l j := by
  pointwise [val_main_v9, val_main_v8, val_main_v6, val_main_v7, val_main_v3, val_main_v5, val_main_v2, val_main_v4, val_main_v1,
    val_main_v0]
  refine congrArg (_ + ·) (Fin.sum_mul_add_congr fun g l hl => ?_).symm
  have e1 : (g.val * 704 + l.val) / 704 = g.val := by omega
  have e2 : (g.val * 704 + l.val) % 704 = l.val := by omega
  simp only [term, e1, e2, Fin.eta]

variable (m : (ℓ : Loc nD τ sig) → Buf (Elt Ideal) ℓ)

/-- After the run the result is the reference's. -/
theorem final (c : Dev nD) : (dats m 0 c).arrAt 3 (cfgs 0).N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, ref_entry]
  frame_out
  pointwise [k0_pay1, term]
  rw [Fin.sum_univ_four, add_comm]
  blk_point [iblk, V, idx t]

end Cert.Kernel16Ideal.DownForward
-- ==== Proof.OutProjForward.lean ====
/-
  The output projection with the residual, `x + merged · w_out`: each grid point works on 1024 rows.
-/
module

public import proofs.«01_k».proof.Proof.Gen.Kernel17Ideal.Frame
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

namespace Cert.Kernel17Ideal.OutProjForward

open Cert.Kernel17Ideal Cert.Kernel17Ideal.Gen Idealize.ShloMosaic Idealize.ShloMosaic.TcCoe Idealize.SL.Sem
open Idealize.ShloMosaic.Pipeline (Dat)
open Cert.Reference17Ideal.Read

/-- The block index of every window at every grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

variable (m : (ℓ : Loc nD τ sig) → Buf (Elt Ideal) ℓ)

/-- After the run the result is the reference's. -/
theorem final (c : Dev nD) : (dats m 0 c).arrAt 3 (cfgs 0).N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v6, val_main_v5, val_main_v0, val_main_v4, val_main_v2, val_main_v3, val_main_v1]
  rw [add_comm]
  blk_point [iblk, V, idx t]

end Cert.Kernel17Ideal.OutProjForward
-- ==== Proof.MergeForward.lean ====
/-
  The merge `Σ_n σ(gate_n) · (branch_n · w_branch[n])` of three branches: each grid point works on 512 rows.
-/
module

public import proofs.«01_k».proof.Proof.Gen.Kernel18Ideal.Frame
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

namespace Cert.Kernel18Ideal.MergeForward

open Cert.Kernel18Ideal Cert.Kernel18Ideal.Gen Idealize.ShloMosaic Idealize.ShloMosaic.TcCoe Idealize.SL.Sem
open Idealize.ShloMosaic.Pipeline (Dat)
open Cert.Reference18Ideal.Read

/-- The block index of every window at every grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![0, 0, 0] ∧ win0_5.index t = ![t.val, 0] :=
  (by decide +kernel : ∀ t : Fin grid0.N, _)

variable (m : (ℓ : Loc nD τ sig) → Buf (Elt Ideal) ℓ)

theorem row_lt (t : Fin cfg0.N) (r : Fin 512) : t.val * 512 + r.val < 8192 := by
  have := lt_of_lt_of_eq t.isLt N_0
  omega

/-- The gate block, although the window overlaps the array's end at other indices, is at every point wholly inside `proj`. -/
theorem gate_at (c : Dev nD) (t : Fin cfg0.N) (j : S512x3072.Idx) :
    X0_3 m c t j = (m ((c : Thread nD τ).loc main_arg3) : FVec Ideal S8192x6912 .bf16)
      (ix2 ⟨t.val * 512 + (j 0).val, row_lt t (j 0)⟩ ⟨3072 + (j 1).val, by have : (j 1).val < 3072 := (j 1).isLt; omega⟩) := by
  unfold X0_3 Pipeline.Window.fill
  rw [dif_pos (moved0_3 t _)]
  blk_ext! [iblk, V, idx t]

set_option maxHeartbeats 1600000 in
/-- After the run the result is the reference's. -/
theorem final (c : Dev nD) : (dats m 0 c).arrAt 5 (cfgs 0).N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_out
  pointwise [k0_pay1, k0_pay2, k0_pay3, val_main_v24, val_main_v23, val_main_v22, val_main_v21, val_main_v11, val_main_v20,
    val_main_v19, val_main_v10, val_main_v3, val_main_cst_0, val_main_v18, val_main_v17, val_main_v7, val_main_v8,
    val_main_v9, val_main_cst, val_main_v16, val_main_v4, val_main_v5, val_main_v6, val_main_v15, val_main_v0, val_main_v1,
    val_main_v2, val_main_v14, val_main_v13, val_main_v12]
  simp only [zero_sub, gate_at, Fin.sum_univ_three]
  blk_point [iblk, V, idx t]
  all_goals simp at *

end Cert.Kernel18Ideal.MergeForward
-- ==== Proof.NormForward.lean ====
/-
  The RMS norm: each grid point works on 1024 rows.
-/
module

public import proofs.«01_k».proof.Proof.Gen.Kernel19Ideal.Frame
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

namespace Cert.Kernel19Ideal.NormForward

open Cert.Kernel19Ideal Cert.Kernel19Ideal.Gen Idealize.ShloMosaic Idealize.ShloMosaic.TcCoe Idealize.SL.Sem
open Idealize.ShloMosaic.Pipeline (Dat)
open Cert.Reference19Ideal.Read

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- After the run the result is the reference's. -/
theorem final (c : Dev nD) : (dats m 0 c).arrAt 2 (cfgs 0).N = val_main_v16 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v16, val_main_v15, val_main_v14, val_main_v11, val_main_v13, val_main_v0, val_main_v10, val_main_v12,
    val_main_v9, val_main_v1, val_main_v8, val_main_v6, val_main_v7, val_main_v4, val_main_v5, val_main_cst_1, val_main_v3,
    val_main_cst_0, val_main_v2, val_main_cst]
  blk_point [iblk, V, idx t]

end Cert.Kernel19Ideal.NormForward
-- ==== Proof.LossWords.lean ====
/-
  The constants of the loss head: the kernel multiplies by `2⁻¹⁰` where the reference divides by 1024.
-/
module

public import Idealize.ShloMosaic.Lib.Pipeline.ValueKit

@[expose] public section

noncomputable section

namespace Cert.LossWords

open Idealize.ShloMosaic

theorem half : Ideal.ofBits .f32 0x3F000000#32 = ((1 / 2 : ℝ) : EReal) := by
  simp [Ideal.ofBits, Ideal.ieee]
  rw [← EReal.coe_mul]
  exact congrArg _ (by norm_num)

theorem two : Ideal.ofBits .f32 0x40000000#32 = ((2 : ℝ) : EReal) := by
  simp [Ideal.ofBits, Ideal.ieee]
  rw [← EReal.coe_mul]
  exact congrArg _ (by norm_num)

theorem width : Ideal.ofBits .f32 0x44800000#32 = ((1024 : ℝ) : EReal) := by
  simp [Ideal.ofBits, Ideal.ieee]
  rw [← EReal.coe_mul]
  exact congrArg _ (by norm_num)

theorem inv_width : Ideal.ofBits .f32 0x3A800000#32 = ((1 / 1024 : ℝ) : EReal) := by
  simp [Ideal.ofBits, Ideal.ieee]
  rw [← EReal.coe_mul]
  exact congrArg _ (by norm_num)

/-- A mean over 1024 entries is the sum times `2⁻¹⁰`. -/
theorem mean (x : EReal) : Ideal.div x (Ideal.ofBits .f32 0x44800000#32) = x * Ideal.ofBits .f32 0x3A800000#32 := by
  rw [width, inv_width, Ideal.div_coe (by norm_num)]

/-- The derivative of half the mean square: twice the error, scaled by half a 1024th. -/
theorem slope (d : EReal) :
    Ideal.div (Ideal.ofBits .f32 0x3F000000#32) (Ideal.ofBits .f32 0x44800000#32)
        * (Ideal.ofBits .f32 0x40000000#32 * d) = d * Ideal.ofBits .f32 0x3A800000#32 := by
  rw [mean, half, two, inv_width, ← mul_assoc, ← EReal.coe_mul, ← EReal.coe_mul, mul_comm]
  norm_num

/-- Half a finite sum is the sum of the halves, whatever its terms. -/
theorem half_sum {ι : Type} (s : Finset ι) (f : ι → EReal) :
    Ideal.ofBits .f32 0x3F000000#32 * ∑ i ∈ s, f i = ∑ i ∈ s, Ideal.ofBits .f32 0x3F000000#32 * f i := by
  classical
  rw [half]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- The sum over a `1 × n` array is the sum over its row. -/
theorem sum_row {n : Nat} (v : (⟨2, ![1, n]⟩ : Shape).Idx → EReal) : ∑ j, v j = ∑ r : Fin n, v (ix2 0 r) := by
  refine Fintype.sum_bijective (fun j => j 1) ⟨fun a b h => ?_, fun r => ⟨ix2 0 r, rfl⟩⟩ _ _ fun j => congrArg v ?_
  · funext i
    match i with
    | ⟨0, _⟩ => exact Subsingleton.elim (α := Fin 1) _ _
    | ⟨1, _⟩ => exact h
  · funext i
    match i with
    | ⟨0, _⟩ => exact Subsingleton.elim (α := Fin 1) _ _
    | ⟨1, _⟩ => rfl

end Cert.LossWords
-- ==== Proof.LossHead.lean ====
/-
  The loss `½ Σ mean (y - target)²` of the normalised rows `y`, and its gradient: each grid point works on 512 rows.
-/
module

public import proofs.«01_k».proof.Proof.Gen.Kernel22Ideal.Frame
public import proofs.«01_k».proof.Proof.Gen.Reference22Ideal.Read
public import proofs.«01_k».proof.Proof.UnitSums
public import proofs.«01_k».proof.Proof.LossWords
public import Idealize.ShloMosaic.Lib.Pipeline.ValueKit
public import Idealize.ShloMosaic.Lib.Pipeline.ReadBack

@[expose] public section

set_option maxRecDepth 16384

noncomputable section

namespace Cert.Kernel22Ideal.LossHead

open Cert.Kernel22Ideal Cert.Kernel22Ideal.Gen Idealize.ShloMosaic Idealize.ShloMosaic.TcCoe Idealize.SL.Sem
open Idealize.ShloMosaic.Pipeline (Dat)
open Cert.Reference22Ideal.Read

/-- The block index of every window at every grid point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, _)

/-- What row `r` contributes to the gradient of the scale: its normalised entry times the gradient of the normalised row. -/
def scaleTerm (X : FVec Ideal S8192x1024 .f32) (G : FVec Ideal S1x1024 .f32) (T : FVec Ideal S8192x1024 .f32) (r : Fin 8192) (j : S1x1024.Idx) : EReal :=
  val_main_v34 (F := Ideal) X G T (ix3 0 r (j 1))

/-- What row `r` contributes to the loss: half its mean square error. -/
def lossTerm (X : FVec Ideal S8192x1024 .f32) (G : FVec Ideal S1x1024 .f32) (T : FVec Ideal S8192x1024 .f32) (r : Fin 8192) (j : S1x128.Idx) : EReal :=
  Ideal.ofBits .f32 0x3F000000#32 * val_main_v25 (F := Ideal) X G T (ix2 0 r)

/-- The reference's gradient of the scale is the sum of the rows' contributions. -/
theorem ref_scale (X : FVec Ideal S8192x1024 .f32) (G : FVec Ideal S1x1024 .f32) (T : FVec Ideal S8192x1024 .f32) (j : S1x1024.Idx) :
    val_main_v56 (F := Ideal) X G T j = ∑ r : Fin 8192, scaleTerm X G T r j := by
  pointwise [val_main_v56, val_main_v39, val_main_v36, val_main_v35, val_main_cst_11, val_main_cst_12,
    UnitSums.hostReduceAdd_row]
  rfl

/-- The reference's loss is the sum of the rows' contributions. -/
theorem ref_loss (X : FVec Ideal S8192x1024 .f32) (G : FVec Ideal S1x1024 .f32) (T : FVec Ideal S8192x1024 .f32) (j : S1x128.Idx) :
    val_main_v57 (F := Ideal) X G T j = ∑ r : Fin 8192, lossTerm X G T r j := by
  refine Eq.trans ?_ (LossWords.half_sum Finset.univ fun r : Fin 8192 => val_main_v25 (F := Ideal) X G T (ix2 0 r))
  refine Eq.trans ?_ (congrArg (Ideal.ofBits .f32 0x3F000000#32 * ·) (LossWords.sum_row (val_main_v25 (F := Ideal) X G T)))
  rw [val_main_v57_apply, val_main_v27_apply, val_main_v26_apply]
  pointwise [val_main_cst_6, val_main_cst_7]

variable (m : (ℓ : Loc nD τ sig) → Buf (Elt Ideal) ℓ)

theorem row_lt (t : Fin cfg0.N) (r : Fin 512) : t.val * 512 + r.val < 8192 := by
  have := lt_of_lt_of_eq t.isLt N_0
  omega

/-- What grid point `t` adds to the scale: the contributions of its 512 rows. -/
def partScale (c : Dev nD) (t : Fin cfg0.N) (j : S1x1024.Idx) : EReal :=
  ∑ r : Fin 512, scaleTerm (m ((c : Thread nD τ).loc main_arg0)) (m ((c : Thread nD τ).loc main_arg1)) (m ((c : Thread nD τ).loc main_arg2)) ⟨t.val * 512 + r.val, row_lt t r⟩ j

set_option maxHeartbeats 1600000 in
/-- The first point clears the buffer and adds its rows. -/
theorem firstScale (c : Dev nD) (t : Fin cfg0.N) (h0 : t.val % 16 = 0) (y : S1x1024.Idx) :
    (outsAt0 m c t.val t.isLt).2.1 y = 0 + partScale m c t y := by
  rw [outsAt0_A m c t h0]
  frame_open
  simp (disch := decide) only [↓ View.readCov_skip, ↓ View.readCov_cons_toLoadRect, ↓ View.readCov_fill]
  frame_out
  pointwise [partScale, scaleTerm, k0_pay2, k0_pay4, k0_pay11, k0_pay8, k0_pay10, k0_pay7, k0_pay9, k0_pay6, val_main_v34,
    val_main_v14, val_main_v33, val_main_v0, val_main_v13, val_main_v32, val_main_v22, val_main_v9, val_main_v31,
    val_main_v21, val_main_v19, val_main_v8, val_main_v29, val_main_v30, val_main_cst_3, val_main_v17, val_main_v18,
    val_main_v6, val_main_v7, val_main_v28, val_main_cst_10, val_main_v16, val_main_v4, val_main_v5, val_main_cst_1,
    val_main_cst_8, val_main_cst_9, val_main_v15, val_main_v3, val_main_cst_0, val_main_v1, val_main_v2, val_main_cst]
  simp only [LossWords.slope]
  blk_point [iblk, V, idx t]

set_option maxHeartbeats 1600000 in
/-- A later point adds its rows to what the point before left. -/
theorem nextScale (c : Dev nD) (t : Fin cfg0.N) (h0 : ¬ t.val % 16 = 0) (y : S1x1024.Idx) :
    (outsAt0 m c t.val t.isLt).2.1 y
      = (outsAt0 m c (t.val - 1) (Nat.lt_of_le_of_lt (Nat.sub_le _ _) t.isLt)).2.1 y + partScale m c t y := by
  rw [outsAt0_B m c t h0]
  frame_out
  pointwise [partScale, scaleTerm, k0_pay2, k0_pay4, k0_pay11, k0_pay8, k0_pay10, k0_pay7, k0_pay9, k0_pay6, val_main_v34,
    val_main_v14, val_main_v33, val_main_v0, val_main_v13, val_main_v32, val_main_v22, val_main_v9, val_main_v31,
    val_main_v21, val_main_v19, val_main_v8, val_main_v29, val_main_v30, val_main_cst_3, val_main_v17, val_main_v18,
    val_main_v6, val_main_v7, val_main_v28, val_main_cst_10, val_main_v16, val_main_v4, val_main_v5, val_main_cst_1,
    val_main_cst_8, val_main_cst_9, val_main_v15, val_main_v3, val_main_cst_0, val_main_v1, val_main_v2, val_main_cst]
  simp only [LossWords.slope]
  blk_point [iblk, V, idx t]

/-- What grid point `t` adds to the loss: the contributions of its 512 rows. -/
def partLoss (c : Dev nD) (t : Fin cfg0.N) (j : S1x128.Idx) : EReal :=
  ∑ r : Fin 512, lossTerm (m ((c : Thread nD τ).loc main_arg0)) (m ((c : Thread nD τ).loc main_arg1)) (m ((c : Thread nD τ).loc main_arg2)) ⟨t.val * 512 + r.val, row_lt t r⟩ j

set_option maxHeartbeats 1600000 in
/-- The first point clears the buffer and adds its rows. -/
theorem firstLoss (c : Dev nD) (t : Fin cfg0.N) (h0 : t.val % 16 = 0) (y : S1x128.Idx) :
    (outsAt0 m c t.val t.isLt).2.2 y = 0 + partLoss m c t y := by
  rw [outsAt0_A m c t h0]
  frame_open
  simp (disch := decide) only [↓ View.readCov_skip, ↓ View.readCov_cons_toLoadRect, ↓ View.readCov_fill]
  frame_out
  pointwise [partLoss, lossTerm, k0_pay3, k0_pay5, k0_pay9, k0_pay8, k0_pay7, k0_pay6, val_main_v25, val_main_v23, val_main_v24,
    val_main_v20, val_main_cst_4, val_main_cst_5, val_main_v19, val_main_v17, val_main_v18, val_main_v14, val_main_v16,
    val_main_v0, val_main_v13, val_main_v15, val_main_v9, val_main_v1, val_main_v8, val_main_v6, val_main_v7, val_main_v4,
    val_main_v5, val_main_cst_1, val_main_v3, val_main_cst_0, val_main_v2, val_main_cst]
  simp only [LossWords.mean, LossWords.half_sum]
  blk_point [iblk, V, idx t]

set_option maxHeartbeats 1600000 in
/-- A later point adds its rows to what the point before left. -/
theorem nextLoss (c : Dev nD) (t : Fin cfg0.N) (h0 : ¬ t.val % 16 = 0) (y : S1x128.Idx) :
    (outsAt0 m c t.val t.isLt).2.2 y
      = (outsAt0 m c (t.val - 1) (Nat.lt_of_le_of_lt (Nat.sub_le _ _) t.isLt)).2.2 y + partLoss m c t y := by
  rw [outsAt0_B m c t h0]
  frame_out
  pointwise [partLoss, lossTerm, k0_pay3, k0_pay5, k0_pay9, k0_pay8, k0_pay7, k0_pay6, val_main_v25, val_main_v23, val_main_v24,
    val_main_v20, val_main_cst_4, val_main_cst_5, val_main_v19, val_main_v17, val_main_v18, val_main_v14, val_main_v16,
    val_main_v0, val_main_v13, val_main_v15, val_main_v9, val_main_v1, val_main_v8, val_main_v6, val_main_v7, val_main_v4,
    val_main_v5, val_main_cst_1, val_main_v3, val_main_cst_0, val_main_v2, val_main_cst]
  simp only [LossWords.mean, LossWords.half_sum]
  blk_point [iblk, V, idx t]

/-- After the run the gradient of the scale is the reference's. -/
theorem final_scale (c : Dev nD) : (dats m 0 c).arrAt 4 (cfgs 0).N = val_main_v56 (F := Ideal) (m ((c : Thread nD τ).loc main_arg0)) (m ((c : Thread nD τ).loc main_arg1)) (m ((c : Thread nD τ).loc main_arg2)) := by
  refine (dats m 0 c).arrAt_eq_of_after_last 4 t0_15 (by decide +kernel) _ fun j => ?_
  blk_simp
  rw [after0_4, ref_scale]
  refine (Pipeline.eq_sum_fin_of_reset_step_apply_last (fun n h => (outsAt0 m c n h).2.1) 16 (fun _ => 0) (partScale m c)
    (fun t h j => firstScale m c t h j) (fun t h j => nextScale m c t h j) (le_of_eq N_0) t0_15 rfl j).trans ?_
  rw [zero_add]
  exact Fin.sum_mul_add_congr fun s k hl => rfl

/-- After the run the loss is the reference's. -/
theorem final_loss (c : Dev nD) : (dats m 0 c).arrAt 5 (cfgs 0).N = val_main_v57 (F := Ideal) (m ((c : Thread nD τ).loc main_arg0)) (m ((c : Thread nD τ).loc main_arg1)) (m ((c : Thread nD τ).loc main_arg2)) := by
  refine (dats m 0 c).arrAt_eq_of_after_last 5 t0_15 (by decide +kernel) _ fun j => ?_
  blk_simp
  rw [after0_5, ref_loss]
  refine (Pipeline.eq_sum_fin_of_reset_step_apply_last (fun n h => (outsAt0 m c n h).2.2) 16 (fun _ => 0) (partLoss m c)
    (fun t h j => firstLoss m c t h j) (fun t h j => nextLoss m c t h j) (le_of_eq N_0) t0_15 rfl j).trans ?_
  rw [zero_add]
  exact Fin.sum_mul_add_congr fun s k hl => rfl

set_option maxHeartbeats 3200000 in
/-- After the run the gradient of the rows is the reference's. -/
theorem final_input (c : Dev nD) : (dats m 0 c).arrAt 3 (cfgs 0).N = val_main_v55 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h0 : t.val % 16 = 0
  · rw [outsAt0_A m c t h0]
    frame_out
    pointwise [k0_pay1, k0_pay13, k0_pay14, k0_pay15, k0_pay7, k0_pay12, k0_pay6, k0_pay10, k0_pay9, k0_pay8,
    UnitSums.hostReduceAdd_column,
      val_main_v55, val_main_v54, val_main_v52, val_main_v53, val_main_v44, val_main_v51, val_main_v50, val_main_v0,
      val_main_v38, val_main_v43, val_main_v49, val_main_v33, val_main_v37, val_main_v9, val_main_v48, val_main_v32,
      val_main_v22, val_main_v15, val_main_v8, val_main_v47, val_main_cst_15, val_main_v31, val_main_v21, val_main_v19,
      val_main_v1, val_main_v6, val_main_v7, val_main_v45, val_main_v46, val_main_v29, val_main_v30, val_main_cst_3,
      val_main_v17, val_main_v18, val_main_v4, val_main_v5, val_main_cst_1, val_main_v42, val_main_v12, val_main_cst_14,
      val_main_v28, val_main_cst_10, val_main_v14, val_main_v16, val_main_v3, val_main_cst_0, val_main_v41, val_main_v11,
      val_main_v10, val_main_cst_8, val_main_cst_9, val_main_v13, val_main_v2, val_main_cst, val_main_v40, val_main_cst_13,
      val_main_cst_2]
    simp only [Fin.sum_univ_one, LossWords.slope]
    blk_point [iblk, V, idx t]
  · rw [outsAt0_B m c t h0]
    frame_out
    pointwise [k0_pay1, k0_pay13, k0_pay14, k0_pay15, k0_pay7, k0_pay12, k0_pay6, k0_pay10, k0_pay9, k0_pay8,
    UnitSums.hostReduceAdd_column,
      val_main_v55, val_main_v54, val_main_v52, val_main_v53, val_main_v44, val_main_v51, val_main_v50, val_main_v0,
      val_main_v38, val_main_v43, val_main_v49, val_main_v33, val_main_v37, val_main_v9, val_main_v48, val_main_v32,
      val_main_v22, val_main_v15, val_main_v8, val_main_v47, val_main_cst_15, val_main_v31, val_main_v21, val_main_v19,
      val_main_v1, val_main_v6, val_main_v7, val_main_v45, val_main_v46, val_main_v29, val_main_v30, val_main_cst_3,
      val_main_v17, val_main_v18, val_main_v4, val_main_v5, val_main_cst_1, val_main_v42, val_main_v12, val_main_cst_14,
      val_main_v28, val_main_cst_10, val_main_v14, val_main_v16, val_main_v3, val_main_cst_0, val_main_v41, val_main_v11,
      val_main_v10, val_main_cst_8, val_main_cst_9, val_main_v13, val_main_v2, val_main_cst, val_main_v40, val_main_cst_13,
      val_main_cst_2]
    simp only [Fin.sum_univ_one, LossWords.slope]
    blk_point [iblk, V, idx t]

end Cert.Kernel22Ideal.LossHead
-- ==== Proof.AdamWords.lean ====
/-
  The comparisons of a layer index with 0 and 1, as the Adam steps' bodies make them.
-/
module

public import Idealize.ShloMosaic.Lib.Pipeline.ValueKit

@[expose] public section

namespace Cert.AdamWords

open Idealize.ShloMosaic

theorem zero_zero : IntOp.cmpi .eq (0#32) 0#32 = 1#1 := by decide
theorem zero_one : IntOp.cmpi .eq (0#32) 1#32 = 0#1 := by decide
theorem one_one : IntOp.cmpi .eq (1#32) 1#32 = 1#1 := by decide

end Cert.AdamWords
-- ==== Proof.AdamInput.lean ====
/-
  The Adam step of `w_in`: grid point `t` updates 128 rows, of the first layer when `t < 8` and of the second after.
-/
module

public import proofs.«01_k».proof.Proof.Gen.Kernel23Ideal.Frame
public import proofs.«01_k».proof.Proof.Gen.Reference23Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel23Ideal.AdamInput

open Cert.Kernel23Ideal Cert.Kernel23Ideal.Gen Idealize.ShloMosaic Idealize.ShloMosaic.TcCoe Idealize.SL.Sem
open Idealize.ShloMosaic.Pipeline (Dat)
open Cert.Reference23Ideal.Read

/-- The block index of every window at every grid point. -/
theorem idx : ∀ t : Fin cfg0.N, (grid0.coords t 0).val = t.val / 8 ∧ win0_0.index t = ![t.val, 0] ∧ win0_1.index t = ![t.val, 0]
    ∧ win0_2.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The block index of the first layer's gradient parts while they are read. -/
theorem idx_first : ∀ t : Fin cfg0.N, t.val < 8 → win0_3.index t = ![0, t.val, 0] :=
  (by decide +kernel : ∀ t : Fin grid0.N, _)

/-- The block index of the second layer's gradient parts while they are read. -/
theorem idx_second : ∀ t : Fin cfg0.N, ¬ t.val < 8 → win0_4.index t = ![0, t.val - 8, 0] :=
  (by decide +kernel : ∀ t : Fin grid0.N, _)

variable (m : (ℓ : Loc nD τ sig) → Buf (Elt Ideal) ℓ)

theorem row_lt (t : Fin cfg0.N) (r : Fin 128) : t.val * 128 + r.val < 2048 := by
  have := lt_of_lt_of_eq t.isLt N_0
  omega

set_option maxHeartbeats 1600000 in
/-- The gradient the body forms at one entry of its block is the sum over the eight senders, of the layer the block lies in. -/
theorem block_grad (c : Dev nD) (t : Fin cfg0.N) (y : S128x865.Idx) :
    k0_pay7 (F := Ideal) (grid0.coords t) (iblk m c 0 t) (iblk m c 1 t) (iblk m c 2 t) (iblk m c 3 t) (iblk m c 4 t) y
      = val_main_v4 (F := Ideal) (m ((c : Thread nD τ).loc main_arg3)) (m ((c : Thread nD τ).loc main_arg4)) (ix2 ⟨t.val * 128 + (y 0).val, row_lt t (y 0)⟩ (y 1)) := by
  have ht : t.val < 16 := lt_of_lt_of_eq t.isLt N_0
  have hc : (grid0.coords t 0).val = t.val / 8 := (idx t).1
  have hy : (y 0).val < 128 := (y 0).isLt
  by_cases h : t.val < 8
  · have hr : t.val * 128 + (y 0).val < 1024 := by omega
    have hz : (grid0.coords t 0).val = 0 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.zero_zero, AdamWords.zero_one]
    blk_point [iblk, V, idx_first t h]
  · have hr : ¬ t.val * 128 + (y 0).val < 1024 := by omega
    have hz : (grid0.coords t 0).val = 1 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.one_one]
    blk_point [iblk, V, idx_second t h]

set_option maxHeartbeats 1600000 in
/-- After the run the gradient, summed over the senders, is the reference's. -/
theorem final_grad (c : Dev nD) : (dats m 0 c).arrAt 5 (cfgs 0).N = val_main_v4 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine (block_grad m c t y).trans (congrArg _ ?_)
  blk_point [idx t]

set_option maxHeartbeats 1600000 in
/-- After the run the first moment is the reference's. -/
theorem final_m (c : Dev nD) : (dats m 0 c).arrAt 7 (cfgs 0).N = val_main_v9 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, val_main_v9, val_main_v6, val_main_v8, val_main_v5, val_main_v7, val_main_cst_1, val_main_cst_2]
  rw [block_grad]
  blk_point [iblk, V, idx t]

set_option maxHeartbeats 1600000 in
/-- After the run the second moment is the reference's. -/
theorem final_v (c : Dev nD) : (dats m 0 c).arrAt 8 (cfgs 0).N = val_main_v15 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay5, val_main_v15, val_main_v11, val_main_v14, val_main_v10, val_main_v13, val_main_v12, val_main_cst_3,
    val_main_cst_4]
  rw [block_grad]
  blk_point [iblk, V, idx t]

set_option maxHeartbeats 1600000 in
/-- After the run the update is the reference's. -/
theorem final_delta (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay6, k0_pay4, k0_pay5, val_main_v28, val_main_v27, val_main_v26, val_main_cst_9, val_main_v23, val_main_v25,
    val_main_v17, val_main_v22, val_main_v24, val_main_v9, val_main_v16, val_main_v20, val_main_v21, val_main_cst_8,
    val_main_v6, val_main_v8, val_main_cst_5, val_main_v19, val_main_cst_7, val_main_v5, val_main_v7, val_main_v15,
    val_main_v18, val_main_cst_1, val_main_cst_2, val_main_v11, val_main_v14, val_main_cst_6, val_main_v10, val_main_v13,
    val_main_v12, val_main_cst_3, val_main_cst_4]
  rw [block_grad]
  blk_point [iblk, V, idx t]

end Cert.Kernel23Ideal.AdamInput
-- ==== Proof.AdamGateUp.lean ====
/-
  The Adam step of `w_gate_up`: grid point `t` updates 128 rows, of the first layer when `t < 8` and of the second after.
-/
module

public import proofs.«01_k».proof.Proof.Gen.Kernel24Ideal.Frame
public import proofs.«01_k».proof.Proof.Gen.Reference24Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel24Ideal.AdamGateUp

open Cert.Kernel24Ideal Cert.Kernel24Ideal.Gen Idealize.ShloMosaic Idealize.ShloMosaic.TcCoe Idealize.SL.Sem
open Idealize.ShloMosaic.Pipeline (Dat)
open Cert.Reference24Ideal.Read

/-- The block index of every window at every grid point. -/
theorem idx : ∀ t : Fin cfg0.N, (grid0.coords t 0).val = t.val / 8 ∧ win0_0.index t = ![t.val, 0] ∧ win0_1.index t = ![t.val, 0]
    ∧ win0_2.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The block index of the first layer's gradient parts while they are read. -/
theorem idx_first : ∀ t : Fin cfg0.N, t.val < 8 → win0_3.index t = ![0, t.val, 0] :=
  (by decide +kernel : ∀ t : Fin grid0.N, _)

/-- The block index of the second layer's gradient parts while they are read. -/
theorem idx_second : ∀ t : Fin cfg0.N, ¬ t.val < 8 → win0_4.index t = ![0, t.val - 8, 0] :=
  (by decide +kernel : ∀ t : Fin grid0.N, _)

variable (m : (ℓ : Loc nD τ sig) → Buf (Elt Ideal) ℓ)

theorem row_lt (t : Fin cfg0.N) (r : Fin 128) : t.val * 128 + r.val < 2048 := by
  have := lt_of_lt_of_eq t.isLt N_0
  omega

set_option maxHeartbeats 1600000 in
/-- The gradient the body forms at one entry of its block is the sum over the eight senders, of the layer the block lies in. -/
theorem block_grad (c : Dev nD) (t : Fin cfg0.N) (y : S128x704.Idx) :
    k0_pay7 (F := Ideal) (grid0.coords t) (iblk m c 0 t) (iblk m c 1 t) (iblk m c 2 t) (iblk m c 3 t) (iblk m c 4 t) y
      = val_main_v4 (F := Ideal) (m ((c : Thread nD τ).loc main_arg3)) (m ((c : Thread nD τ).loc main_arg4)) (ix2 ⟨t.val * 128 + (y 0).val, row_lt t (y 0)⟩ (y 1)) := by
  have ht : t.val < 16 := lt_of_lt_of_eq t.isLt N_0
  have hc : (grid0.coords t 0).val = t.val / 8 := (idx t).1
  have hy : (y 0).val < 128 := (y 0).isLt
  by_cases h : t.val < 8
  · have hr : t.val * 128 + (y 0).val < 1024 := by omega
    have hz : (grid0.coords t 0).val = 0 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.zero_zero, AdamWords.zero_one]
    blk_point [iblk, V, idx_first t h]
  · have hr : ¬ t.val * 128 + (y 0).val < 1024 := by omega
    have hz : (grid0.coords t 0).val = 1 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.one_one]
    blk_point [iblk, V, idx_second t h]

set_option maxHeartbeats 1600000 in
/-- After the run the gradient, summed over the senders, is the reference's. -/
theorem final_grad (c : Dev nD) : (dats m 0 c).arrAt 5 (cfgs 0).N = val_main_v4 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine (block_grad m c t y).trans (congrArg _ ?_)
  blk_point [idx t]

set_option maxHeartbeats 1600000 in
/-- After the run the first moment is the reference's. -/
theorem final_m (c : Dev nD) : (dats m 0 c).arrAt 7 (cfgs 0).N = val_main_v9 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, val_main_v9, val_main_v6, val_main_v8, val_main_v5, val_main_v7, val_main_cst_1, val_main_cst_2]
  rw [block_grad]
  blk_point [iblk, V, idx t]

set_option maxHeartbeats 1600000 in
/-- After the run the second moment is the reference's. -/
theorem final_v (c : Dev nD) : (dats m 0 c).arrAt 8 (cfgs 0).N = val_main_v15 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay5, val_main_v15, val_main_v11, val_main_v14, val_main_v10, val_main_v13, val_main_v12, val_main_cst_3,
    val_main_cst_4]
  rw [block_grad]
  blk_point [iblk, V, idx t]

set_option maxHeartbeats 1600000 in
/-- After the run the update is the reference's. -/
theorem final_delta (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay6, k0_pay4, k0_pay5, val_main_v28, val_main_v27, val_main_v26, val_main_cst_9, val_main_v23, val_main_v25,
    val_main_v17, val_main_v22, val_main_v24, val_main_v9, val_main_v16, val_main_v20, val_main_v21, val_main_cst_8,
    val_main_v6, val_main_v8, val_main_cst_5, val_main_v19, val_main_cst_7, val_main_v5, val_main_v7, val_main_v15,
    val_main_v18, val_main_cst_1, val_main_cst_2, val_main_v11, val_main_v14, val_main_cst_6, val_main_v10, val_main_v13,
    val_main_v12, val_main_cst_3, val_main_cst_4]
  rw [block_grad]
  blk_point [iblk, V, idx t]

end Cert.Kernel24Ideal.AdamGateUp
-- ==== Proof.AdamDown.lean ====
/-
  The Adam step of `w_down`: grid point `t` updates 32 rows, of the first layer when `t < 11` and of the second after.
-/
module

public import proofs.«01_k».proof.Proof.Gen.Kernel25Ideal.Frame
public import proofs.«01_k».proof.Proof.Gen.Reference25Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel25Ideal.AdamDown

open Cert.Kernel25Ideal Cert.Kernel25Ideal.Gen Idealize.ShloMosaic Idealize.ShloMosaic.TcCoe Idealize.SL.Sem
open Idealize.ShloMosaic.Pipeline (Dat)
open Cert.Reference25Ideal.Read

/-- The block index of every window at every grid point. -/
theorem idx : ∀ t : Fin cfg0.N, (grid0.coords t 0).val = t.val / 11 ∧ win0_0.index t = ![t.val, 0] ∧ win0_1.index t = ![t.val, 0]
    ∧ win0_2.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The block index of the first layer's gradient parts while they are read. -/
theorem idx_first : ∀ t : Fin cfg0.N, t.val < 11 → win0_3.index t = ![0, t.val, 0] :=
  (by decide +kernel : ∀ t : Fin grid0.N, _)

/-- The block index of the second layer's gradient parts while they are read. -/
theorem idx_second : ∀ t : Fin cfg0.N, ¬ t.val < 11 → win0_4.index t = ![0, t.val - 11, 0] :=
  (by decide +kernel : ∀ t : Fin grid0.N, _)

variable (m : (ℓ : Loc nD τ sig) → Buf (Elt Ideal) ℓ)

theorem row_lt (t : Fin cfg0.N) (r : Fin 32) : t.val * 32 + r.val < 704 := by
  have := lt_of_lt_of_eq t.isLt N_0
  omega

set_option maxHeartbeats 1600000 in
/-- The gradient the body forms at one entry of its block is the sum over the eight senders, of the layer the block lies in. -/
theorem block_grad (c : Dev nD) (t : Fin cfg0.N) (y : S32x1024.Idx) :
    k0_pay7 (F := Ideal) (grid0.coords t) (iblk m c 0 t) (iblk m c 1 t) (iblk m c 2 t) (iblk m c 3 t) (iblk m c 4 t) y
      = val_main_v4 (F := Ideal) (m ((c : Thread nD τ).loc main_arg3)) (m ((c : Thread nD τ).loc main_arg4)) (ix2 ⟨t.val * 32 + (y 0).val, row_lt t (y 0)⟩ (y 1)) := by
  have ht : t.val < 22 := lt_of_lt_of_eq t.isLt N_0
  have hc : (grid0.coords t 0).val = t.val / 11 := (idx t).1
  have hy : (y 0).val < 32 := (y 0).isLt
  by_cases h : t.val < 11
  · have hr : t.val * 32 + (y 0).val < 352 := by omega
    have hz : (grid0.coords t 0).val = 0 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.zero_zero, AdamWords.zero_one]
    blk_point [iblk, V, idx_first t h]
  · have hr : ¬ t.val * 32 + (y 0).val < 352 := by omega
    have hz : (grid0.coords t 0).val = 1 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.one_one]
    blk_point [iblk, V, idx_second t h]

set_option maxHeartbeats 1600000 in
/-- After the run the gradient, summed over the senders, is the reference's. -/
theorem final_grad (c : Dev nD) : (dats m 0 c).arrAt 5 (cfgs 0).N = val_main_v4 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine (block_grad m c t y).trans (congrArg _ ?_)
  blk_point [idx t]

set_option maxHeartbeats 1600000 in
/-- After the run the first moment is the reference's. -/
theorem final_m (c : Dev nD) : (dats m 0 c).arrAt 7 (cfgs 0).N = val_main_v9 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, val_main_v9, val_main_v6, val_main_v8, val_main_v5, val_main_v7, val_main_cst_1, val_main_cst_2]
  rw [block_grad]
  blk_point [iblk, V, idx t]

set_option maxHeartbeats 1600000 in
/-- After the run the second moment is the reference's. -/
theorem final_v (c : Dev nD) : (dats m 0 c).arrAt 8 (cfgs 0).N = val_main_v15 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay5, val_main_v15, val_main_v11, val_main_v14, val_main_v10, val_main_v13, val_main_v12, val_main_cst_3,
    val_main_cst_4]
  rw [block_grad]
  blk_point [iblk, V, idx t]

set_option maxHeartbeats 1600000 in
/-- After the run the update is the reference's. -/
theorem final_delta (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay6, k0_pay4, k0_pay5, val_main_v28, val_main_v27, val_main_v26, val_main_cst_9, val_main_v23, val_main_v25,
    val_main_v17, val_main_v22, val_main_v24, val_main_v9, val_main_v16, val_main_v20, val_main_v21, val_main_cst_8,
    val_main_v6, val_main_v8, val_main_cst_5, val_main_v19, val_main_cst_7, val_main_v5, val_main_v7, val_main_v15,
    val_main_v18, val_main_cst_1, val_main_cst_2, val_main_v11, val_main_v14, val_main_cst_6, val_main_v10, val_main_v13,
    val_main_v12, val_main_cst_3, val_main_cst_4]
  rw [block_grad]
  blk_point [iblk, V, idx t]

end Cert.Kernel25Ideal.AdamDown
-- ==== Proof.AdamOut.lean ====
/-
  The Adam step of `w_out`: grid point `t` updates 128 rows, of the first layer when `t < 1` and of the second after.
-/
module

public import proofs.«01_k».proof.Proof.Gen.Kernel26Ideal.Frame
public import proofs.«01_k».proof.Proof.Gen.Reference26Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel26Ideal.AdamOut

open Cert.Kernel26Ideal Cert.Kernel26Ideal.Gen Idealize.ShloMosaic Idealize.ShloMosaic.TcCoe Idealize.SL.Sem
open Idealize.ShloMosaic.Pipeline (Dat)
open Cert.Reference26Ideal.Read

/-- The block index of every window at every grid point. -/
theorem idx : ∀ t : Fin cfg0.N, (grid0.coords t 0).val = t.val / 1 ∧ win0_0.index t = ![t.val, 0] ∧ win0_1.index t = ![t.val, 0]
    ∧ win0_2.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The block index of the first layer's gradient parts while they are read. -/
theorem idx_first : ∀ t : Fin cfg0.N, t.val < 1 → win0_3.index t = ![0, t.val, 0] :=
  (by decide +kernel : ∀ t : Fin grid0.N, _)

/-- The block index of the second layer's gradient parts while they are read. -/
theorem idx_second : ∀ t : Fin cfg0.N, ¬ t.val < 1 → win0_4.index t = ![0, t.val - 1, 0] :=
  (by decide +kernel : ∀ t : Fin grid0.N, _)

variable (m : (ℓ : Loc nD τ sig) → Buf (Elt Ideal) ℓ)

theorem row_lt (t : Fin cfg0.N) (r : Fin 128) : t.val * 128 + r.val < 256 := by
  have := lt_of_lt_of_eq t.isLt N_0
  omega

set_option maxHeartbeats 1600000 in
/-- The gradient the body forms at one entry of its block is the sum over the eight senders, of the layer the block lies in. -/
theorem block_grad (c : Dev nD) (t : Fin cfg0.N) (y : S128x1024.Idx) :
    k0_pay7 (F := Ideal) (grid0.coords t) (iblk m c 0 t) (iblk m c 1 t) (iblk m c 2 t) (iblk m c 3 t) (iblk m c 4 t) y
      = val_main_v4 (F := Ideal) (m ((c : Thread nD τ).loc main_arg3)) (m ((c : Thread nD τ).loc main_arg4)) (ix2 ⟨t.val * 128 + (y 0).val, row_lt t (y 0)⟩ (y 1)) := by
  have ht : t.val < 2 := lt_of_lt_of_eq t.isLt N_0
  have hc : (grid0.coords t 0).val = t.val / 1 := (idx t).1
  have hy : (y 0).val < 128 := (y 0).isLt
  by_cases h : t.val < 1
  · have hr : t.val * 128 + (y 0).val < 128 := by omega
    have hz : (grid0.coords t 0).val = 0 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.zero_zero, AdamWords.zero_one]
    blk_point [iblk, V, idx_first t h]
  · have hr : ¬ t.val * 128 + (y 0).val < 128 := by omega
    have hz : (grid0.coords t 0).val = 1 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.one_one]
    blk_point [iblk, V, idx_second t h]

set_option maxHeartbeats 1600000 in
/-- After the run the gradient, summed over the senders, is the reference's. -/
theorem final_grad (c : Dev nD) : (dats m 0 c).arrAt 5 (cfgs 0).N = val_main_v4 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine (block_grad m c t y).trans (congrArg _ ?_)
  blk_point [idx t]

set_option maxHeartbeats 1600000 in
/-- After the run the first moment is the reference's. -/
theorem final_m (c : Dev nD) : (dats m 0 c).arrAt 7 (cfgs 0).N = val_main_v9 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, val_main_v9, val_main_v6, val_main_v8, val_main_v5, val_main_v7, val_main_cst_1, val_main_cst_2]
  rw [block_grad]
  blk_point [iblk, V, idx t]

set_option maxHeartbeats 1600000 in
/-- After the run the second moment is the reference's. -/
theorem final_v (c : Dev nD) : (dats m 0 c).arrAt 8 (cfgs 0).N = val_main_v15 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay5, val_main_v15, val_main_v11, val_main_v14, val_main_v10, val_main_v13, val_main_v12, val_main_cst_3,
    val_main_cst_4]
  rw [block_grad]
  blk_point [iblk, V, idx t]

set_option maxHeartbeats 1600000 in
/-- After the run the update is the reference's. -/
theorem final_delta (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay6, k0_pay4, k0_pay5, val_main_v28, val_main_v27, val_main_v26, val_main_cst_9, val_main_v23, val_main_v25,
    val_main_v17, val_main_v22, val_main_v24, val_main_v9, val_main_v16, val_main_v20, val_main_v21, val_main_cst_8,
    val_main_v6, val_main_v8, val_main_cst_5, val_main_v19, val_main_cst_7, val_main_v5, val_main_v7, val_main_v15,
    val_main_v18, val_main_cst_1, val_main_cst_2, val_main_v11, val_main_v14, val_main_cst_6, val_main_v10, val_main_v13,
    val_main_v12, val_main_cst_3, val_main_cst_4]
  rw [block_grad]
  blk_point [iblk, V, idx t]

end Cert.Kernel26Ideal.AdamOut
-- ==== Proof.AdamBranch.lean ====
/-
  The Adam step of `w_branch`: grid point `t` updates 768 rows, of the first layer when `t < 2` and of the second after.
-/
module

public import proofs.«01_k».proof.Proof.Gen.Kernel27Ideal.Frame
public import proofs.«01_k».proof.Proof.Gen.Reference27Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel27Ideal.AdamBranch

open Cert.Kernel27Ideal Cert.Kernel27Ideal.Gen Idealize.ShloMosaic Idealize.ShloMosaic.TcCoe Idealize.SL.Sem
open Idealize.ShloMosaic.Pipeline (Dat)
open Cert.Reference27Ideal.Read

/-- The block index of every window at every grid point. -/
theorem idx : ∀ t : Fin cfg0.N, (grid0.coords t 0).val = t.val / 2 ∧ win0_0.index t = ![t.val, 0] ∧ win0_1.index t = ![t.val, 0]
    ∧ win0_2.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The block index of the first layer's gradient parts while they are read. -/
theorem idx_first : ∀ t : Fin cfg0.N, t.val < 2 → win0_3.index t = ![0, t.val, 0] :=
  (by decide +kernel : ∀ t : Fin grid0.N, _)

/-- The block index of the second layer's gradient parts while they are read. -/
theorem idx_second : ∀ t : Fin cfg0.N, ¬ t.val < 2 → win0_4.index t = ![0, t.val - 2, 0] :=
  (by decide +kernel : ∀ t : Fin grid0.N, _)

variable (m : (ℓ : Loc nD τ sig) → Buf (Elt Ideal) ℓ)

theorem row_lt (t : Fin cfg0.N) (r : Fin 768) : t.val * 768 + r.val < 3072 := by
  have := lt_of_lt_of_eq t.isLt N_0
  omega

set_option maxHeartbeats 1600000 in
/-- The gradient the body forms at one entry of its block is the sum over the eight senders, of the layer the block lies in. -/
theorem block_grad (c : Dev nD) (t : Fin cfg0.N) (y : S768x128.Idx) :
    k0_pay7 (F := Ideal) (grid0.coords t) (iblk m c 0 t) (iblk m c 1 t) (iblk m c 2 t) (iblk m c 3 t) (iblk m c 4 t) y
      = val_main_v4 (F := Ideal) (m ((c : Thread nD τ).loc main_arg3)) (m ((c : Thread nD τ).loc main_arg4)) (ix2 ⟨t.val * 768 + (y 0).val, row_lt t (y 0)⟩ (y 1)) := by
  have ht : t.val < 4 := lt_of_lt_of_eq t.isLt N_0
  have hc : (grid0.coords t 0).val = t.val / 2 := (idx t).1
  have hy : (y 0).val < 768 := (y 0).isLt
  by_cases h : t.val < 2
  · have hr : t.val * 768 + (y 0).val < 1536 := by omega
    have hz : (grid0.coords t 0).val = 0 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.zero_zero, AdamWords.zero_one]
    blk_point [iblk, V, idx_first t h]
  · have hr : ¬ t.val * 768 + (y 0).val < 1536 := by omega
    have hz : (grid0.coords t 0).val = 1 := by omega
    unfold k0_pay7
    rw [hz]
    pointwise [k0_pay1, k0_pay2, k0_pay3,
      val_main_v4, val_main_v1, val_main_v3, val_main_v0, val_main_cst, val_main_v2, val_main_cst_0, Scalar.cmpi]
    simp only [Fin.sum_univ_eight]
    simp [hr, Scalar.select, AdamWords.one_one]
    blk_point [iblk, V, idx_second t h]

set_option maxHeartbeats 1600000 in
/-- After the run the gradient, summed over the senders, is the reference's. -/
theorem final_grad (c : Dev nD) : (dats m 0 c).arrAt 5 (cfgs 0).N = val_main_v4 (F := Ideal) (m ((c : Thread nD τ).loc main_arg3)) (m ((c : Thread nD τ).loc main_arg4)) := by
  refine (dats m 0 c).arrAt_eq_of_covers 5 _ (by decide +kernel) fun t hf y => ?_
  blk_simp
  rw [after0_5]
  frame_out
  refine (block_grad m c t y).trans (congrArg _ ?_)
  blk_point [idx t]

set_option maxHeartbeats 1600000 in
/-- After the run the first moment is the reference's. -/
theorem final_m (c : Dev nD) : (dats m 0 c).arrAt 7 (cfgs 0).N = val_main_v9 (F := Ideal) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  frame_out
  pointwise [k0_pay4, val_main_v9, val_main_v6, val_main_v8, val_main_v5, val_main_v7, val_main_cst_1, val_main_cst_2]
  rw [block_grad]
  blk_point [iblk, V, idx t]

set_option maxHeartbeats 1600000 in
/-- After the run the second moment is the reference's. -/
theorem final_v (c : Dev nD) : (dats m 0 c).arrAt 8 (cfgs 0).N = val_main_v15 (F := Ideal) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]
  frame_out
  pointwise [k0_pay5, val_main_v15, val_main_v11, val_main_v14, val_main_v10, val_main_v13, val_main_v12, val_main_cst_3,
    val_main_cst_4]
  rw [block_grad]
  blk_point [iblk, V, idx t]

set_option maxHeartbeats 1600000 in
/-- After the run the update is the reference's. -/
theorem final_delta (c : Dev nD) : (dats m 0 c).arrAt 6 (cfgs 0).N = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay6, k0_pay4, k0_pay5, val_main_v28, val_main_v27, val_main_v26, val_main_cst_9, val_main_v23, val_main_v25,
    val_main_v17, val_main_v22, val_main_v24, val_main_v9, val_main_v16, val_main_v20, val_main_v21, val_main_cst_8,
    val_main_v6, val_main_v8, val_main_cst_5, val_main_v19, val_main_cst_7, val_main_v5, val_main_v7, val_main_v15,
    val_main_v18, val_main_cst_1, val_main_cst_2, val_main_v11, val_main_v14, val_main_cst_6, val_main_v10, val_main_v13,
    val_main_v12, val_main_cst_3, val_main_cst_4]
  rw [block_grad]
  blk_point [iblk, V, idx t]

end Cert.Kernel27Ideal.AdamBranch
-- ==== Proof.AdamConv.lean ====
/-
  The Adam step of `dn_conv_w`: grid point `t` updates 8 rows.
-/
module

public import proofs.«01_k».proof.Proof.Gen.Kernel28Ideal.Frame
public import proofs.«01_k».proof.Proof.Gen.Reference28Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel28Ideal.AdamConv

open Cert.Kernel28Ideal Cert.Kernel28Ideal.Gen Idealize.ShloMosaic Idealize.ShloMosaic.TcCoe Idealize.SL.Sem
open Idealize.ShloMosaic.Pipeline (Dat)
open Cert.Reference28Ideal.Read

/-- The block index of every window at every grid point. -/
theorem idx : ∀ t : Fin cfg0.N, (grid0.coords t 0).val = 0 ∧ win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

theorem row_lt (t : Fin cfg0.N) (r : Fin 8) : t.val * 8 + r.val < 8 := by
  have := lt_of_lt_of_eq t.isLt N_0
  omega

set_option maxHeartbeats 1600000 in
/-- The gradient the body forms at one entry of its block is the sum over the eight senders. -/
theorem block_grad (c : Dev nD) (t : Fin cfg0.N) (y : S8x192.Idx) :
    k0_pay6 (F := Ideal) (grid0.coords t) (iblk m c 0 t) (iblk m c 1 t) (iblk m c 2 t) (iblk m c 3 t) y
      = val_main_v0 (F := Ideal) (m ((c : Thread nD τ).loc main_arg3)) (ix2 ⟨t.val * 8 + (y 0).val, row_lt t (y 0)⟩ (y 1)) := by
  have ht : t.val < 1 := lt_of_lt_of_eq t.isLt N_0
  have hz : (grid0.coords t 0).val = 0 := (idx t).1
  have hy : (y 0).val < 8 := (y 0).isLt
  unfold k0_pay6 k0_pay4
  rw [hz]
  pointwise [val_main_v0, val_main_cst, Scalar.cmpi]
  simp only [Fin.sum_univ_eight]
  simp [Scalar.select, AdamWords.zero_zero]
  blk_point [iblk, V, idx t]

set_option maxHeartbeats 1600000 in
/-- After the run the gradient, summed over the senders, is the reference's. -/
theorem final_grad (c : Dev nD) : (dats m 0 c).arrAt 4 (cfgs 0).N = val_main_v0 (F := Ideal) (m ((c : Thread nD τ).loc main_arg3)) := by
  refine (dats m 0 c).arrAt_eq_of_covers 4 _ (by decide +kernel) fun t hf y => ?_
  blk_simp
  rw [after0_4]
  frame_out
  refine (block_grad m c t y).trans (congrArg _ ?_)
  blk_point [idx t]

set_option maxHeartbeats 1600000 in
/-- After the run the first moment is the reference's. -/
theorem final_m (c : Dev nD) : (dats m 0 c).arrAt 6 (cfgs 0).N = val_main_v5 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay5, k0_pay7, val_main_v5, val_main_v2, val_main_v4, val_main_v1, val_main_v3, val_main_cst_0,
    val_main_cst_1]
  rw [block_grad]
  blk_point [iblk, V, idx t]

set_option maxHeartbeats 1600000 in
/-- After the run the second moment is the reference's. -/
theorem final_v (c : Dev nD) : (dats m 0 c).arrAt 7 (cfgs 0).N = val_main_v11 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, val_main_v11, val_main_v7, val_main_v10, val_main_v6, val_main_v9, val_main_v8, val_main_cst_2,
    val_main_cst_3]
  rw [block_grad]
  blk_point [iblk, V, idx t]

set_option maxHeartbeats 1600000 in
/-- After the run the update is the reference's. -/
theorem final_delta (c : Dev nD) : (dats m 0 c).arrAt 5 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay5, k0_pay1, k0_pay2, k0_pay7, val_main_v24, val_main_v23, val_main_v22, val_main_cst_8, val_main_v19,
    val_main_v21, val_main_v13, val_main_v18, val_main_v20, val_main_v5, val_main_v12, val_main_v16, val_main_v17,
    val_main_cst_7, val_main_v2, val_main_v4, val_main_cst_4, val_main_v15, val_main_cst_6, val_main_v1, val_main_v3,
    val_main_v11, val_main_v14, val_main_cst_0, val_main_cst_1, val_main_v7, val_main_v10, val_main_cst_5, val_main_v6,
    val_main_v9, val_main_v8, val_main_cst_2, val_main_cst_3]
  rw [block_grad]
  blk_point [iblk, V, idx t]

end Cert.Kernel28Ideal.AdamConv
-- ==== Proof.AdamReplicated.lean ====
/-
  The Adam step of the parameters that every device holds whole: grid point `t` updates 560 rows.
-/
module

public import proofs.«01_k».proof.Proof.Gen.Kernel29Ideal.Frame
public import proofs.«01_k».proof.Proof.Gen.Reference29Ideal.Read
public import proofs.«01_k».proof.Proof.AdamWords
public import Idealize.ShloMosaic.Lib.Pipeline.ValueKit
public import Idealize.ShloMosaic.Lib.Pipeline.ReadBack

@[expose] public section

set_option maxRecDepth 16384

noncomputable section

namespace Cert.Kernel29Ideal.AdamReplicated

open Cert.Kernel29Ideal Cert.Kernel29Ideal.Gen Idealize.ShloMosaic Idealize.ShloMosaic.TcCoe Idealize.SL.Sem
open Idealize.ShloMosaic.Pipeline (Dat)
open Cert.Reference29Ideal.Read

/-- The block index of every window at every grid point. -/
theorem idx : ∀ t : Fin cfg0.N, (grid0.coords t 0).val = 0 ∧ win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ)

theorem row_lt (t : Fin cfg0.N) (r : Fin 560) : t.val * 560 + r.val < 1120 := by
  have := lt_of_lt_of_eq t.isLt N_0
  omega

set_option maxHeartbeats 1600000 in
/-- The gradient the body forms at one entry of its block is the sum over the eight senders. -/
theorem block_grad (c : Dev nD) (t : Fin cfg0.N) (y : S560x128.Idx) :
    k0_pay6 (F := Ideal) (grid0.coords t) (iblk m c 0 t) (iblk m c 1 t) (iblk m c 2 t) (iblk m c 3 t) y
      = val_main_v0 (F := Ideal) (m ((c : Thread nD τ).loc main_arg3)) (ix2 ⟨t.val * 560 + (y 0).val, row_lt t (y 0)⟩ (y 1)) := by
  have ht : t.val < 2 := lt_of_lt_of_eq t.isLt N_0
  have hz : (grid0.coords t 0).val = 0 := (idx t).1
  have hy : (y 0).val < 560 := (y 0).isLt
  unfold k0_pay6 k0_pay4
  rw [hz]
  pointwise [val_main_v0, val_main_cst, Scalar.cmpi]
  simp only [Fin.sum_univ_eight]
  simp [Scalar.select, AdamWords.zero_zero]
  blk_point [iblk, V, idx t]

set_option maxHeartbeats 1600000 in
/-- After the run the gradient, summed over the senders, is the reference's. -/
theorem final_grad (c : Dev nD) : (dats m 0 c).arrAt 4 (cfgs 0).N = val_main_v0 (F := Ideal) (m ((c : Thread nD τ).loc main_arg3)) := by
  refine (dats m 0 c).arrAt_eq_of_covers 4 _ (by decide +kernel) fun t hf y => ?_
  blk_simp
  rw [after0_4]
  frame_out
  refine (block_grad m c t y).trans (congrArg _ ?_)
  blk_point [idx t]

set_option maxHeartbeats 1600000 in
/-- After the run the first moment is the reference's. -/
theorem final_m (c : Dev nD) : (dats m 0 c).arrAt 6 (cfgs 0).N = val_main_v5 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  pointwise [k0_pay1, k0_pay5, k0_pay7, val_main_v5, val_main_v2, val_main_v4, val_main_v1, val_main_v3, val_main_cst_0,
    val_main_cst_1]
  rw [block_grad]
  blk_point [iblk, V, idx t]

set_option maxHeartbeats 1600000 in
/-- After the run the second moment is the reference's. -/
theorem final_v (c : Dev nD) : (dats m 0 c).arrAt 7 (cfgs 0).N = val_main_v11 (F := Ideal) (m ((c : Thread nD τ).loc main_arg2)) (m ((c : Thread nD τ).loc main_arg3)) := by
  refine (dats m 0 c).arrAt_eq_of_covers 7 _ (by decide +kernel) fun t hf y => ?_
  blk_simp
  rw [after0_7]
  frame_out
  pointwise [k0_pay2, val_main_v11, val_main_v7, val_main_v10, val_main_v6, val_main_v9, val_main_v8, val_main_cst_2,
    val_main_cst_3]
  rw [block_grad]
  blk_point [iblk, V, idx t]

set_option maxHeartbeats 1600000 in
/-- After the run the update is the reference's. -/
theorem final_delta (c : Dev nD) : (dats m 0 c).arrAt 5 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  pointwise [k0_pay3, k0_pay5, k0_pay1, k0_pay2, k0_pay7, val_main_v24, val_main_v23, val_main_v22, val_main_cst_8, val_main_v19,
    val_main_v21, val_main_v13, val_main_v18, val_main_v20, val_main_v5, val_main_v12, val_main_v16, val_main_v17,
    val_main_cst_7, val_main_v2, val_main_v4, val_main_cst_4, val_main_v15, val_main_cst_6, val_main_v1, val_main_v3,
    val_main_v11, val_main_v14, val_main_cst_0, val_main_cst_1, val_main_v7, val_main_v10, val_main_cst_5, val_main_v6,
    val_main_v9, val_main_v8, val_main_cst_2, val_main_cst_3]
  rw [block_grad]
  blk_point [iblk, V, idx t]

end Cert.Kernel29Ideal.AdamReplicated
-- ==== Proof.ConvForward.lean ====
/-
  The short causal convolution and its SiLU: each grid point works on 512 rows and on the last three of the rows before them, which are
  zero before the first point.
-/
module

public import proofs.«01_k».proof.Proof.Gen.Kernel30Ideal.Frame
public import proofs.«01_k».proof.Proof.Gen.Reference30Ideal.Read
public import Idealize.ShloMosaic.Lib.Pipeline.ValueKit
public import Idealize.ShloMosaic.Lib.Pipeline.ReadBack

@[expose] public section

set_option maxRecDepth 16384

noncomputable section

namespace Cert.Kernel30Ideal.ConvForward

open Cert.Kernel30Ideal Cert.Kernel30Ideal.Gen Idealize.ShloMosaic Idealize.ShloMosaic.TcCoe Idealize.SL.Sem
open Idealize.ShloMosaic.Pipeline (Dat)
open Cert.Reference30Ideal.Read

/-- The block index of every window at every grid point. -/
theorem idx : ∀ t : Fin cfg0.N, win0_0.index t = ![t.val, 1] ∧ win0_1.index t = ![t.val * 32 - 1, 1] ∧ win0_2.index t = ![0, 0]
    ∧ win0_3.index t = ![t.val, 0] :=
  (by decide +kernel : ∀ t : Fin grid0.N, _)

/-- The first grid coordinate is the grid point. -/
theorem coord : ∀ t : Fin cfg0.N, ((grid0.coords t) 0).val = t.val :=
  (by decide +kernel : ∀ t : Fin grid0.N, _)

theorem row_lt (t : Fin cfg0.N) (r : Fin 512) : t.val * 512 + r.val < 8192 := by
  have := lt_of_lt_of_eq t.isLt N_0
  omega

theorem before_lt (t : Fin cfg0.N) (r : Fin 16) : (t.val * 32 - 1) * 16 + r.val < 8192 := by
  have := lt_of_lt_of_eq t.isLt N_0
  omega

variable (m : (ℓ : Loc nD τ sig) → Buf (Elt Ideal) ℓ)

theorem rows_at (c : Dev nD) (t : Fin cfg0.N) (j : S512x1536.Idx) :
    X0_0 m c t j = (m ((c : Thread nD τ).loc main_arg0) : FVec Ideal S8192x6912 .bf16)
      (ix2 ⟨t.val * 512 + (j 0).val, row_lt t (j 0)⟩ ⟨1536 + (j 1).val, by have : (j 1).val < 1536 := (j 1).isLt; omega⟩) := by
  unfold X0_0 Pipeline.Window.fill
  rw [dif_pos (moved0_0 t _)]
  blk_ext! [iblk, V, idx t]

theorem before_at (c : Dev nD) (t : Fin cfg0.N) (j : S16x1536.Idx) :
    X0_1 m c t j = (m ((c : Thread nD τ).loc main_arg0) : FVec Ideal S8192x6912 .bf16)
      (ix2 ⟨(t.val * 32 - 1) * 16 + (j 0).val, before_lt t (j 0)⟩ ⟨1536 + (j 1).val, by have : (j 1).val < 1536 := (j 1).isLt; omega⟩) := by
  unfold X0_1 Pipeline.Window.fill
  rw [dif_pos (moved0_1 t _)]
  blk_ext! [iblk, V, idx t]

/-- The choice by the grid point. -/
theorem choice (t : Fin cfg0.N) (a b : EReal) :
    Scalar.select (Scalar.cmpi CmpIPredicate.sgt (BitVec.ofNat 32 ((grid0.coords t) 0).val) 0#32) a b = if 0 < t.val then a else b := by
  rw [coord]
  have h : ∀ t : Fin cfg0.N, Scalar.cmpi CmpIPredicate.sgt (BitVec.ofNat 32 t.val) 0#32 = if 0 < t.val then 1 else 0 :=
    (by decide +kernel : ∀ t : Fin grid0.N, _)
  rw [h t]
  unfold Scalar.select
  split <;> simp

theorem zero_word : (FloatOps.sitofp FTy.f32 0#32 : Ideal .f32) = (0 : EReal) := by
  show (((0#32 : BitVec 32).toInt : ℝ) : EReal) = 0
  simp

/-- The row three before row `k + j₀`, or zero where there is none. -/
def tap (X : FVec Ideal S8192x6912 .bf16) (k : ℕ) (j : S8192x1536.Idx) : EReal :=
  if h : 3 ≤ k + (j 0).val ∧ k + (j 0).val - 3 < 8192 then
    X (ix2 ⟨k + (j 0).val - 3, h.2⟩ ⟨1536 + (j 1).val, by have : (j 1).val < 1536 := (j 1).isLt; omega⟩)
  else 0

/-- The convolution before its activation. -/
def pre (X : FVec Ideal S8192x6912 .bf16) (W : FVec Ideal S16x1536 .f32) (j : S8192x1536.Idx) : EReal :=
  tap X 0 j * W (ix2 0 (j 1)) + tap X 1 j * W (ix2 1 (j 1)) + tap X 2 j * W (ix2 2 (j 1))
    + X (ix2 (j 0) ⟨1536 + (j 1).val, by have : (j 1).val < 1536 := (j 1).isLt; omega⟩) * W (ix2 3 (j 1))

theorem ref_entry (X : FVec Ideal S8192x6912 .bf16) (W : FVec Ideal S16x1536 .f32) (j : S8192x1536.Idx) :
    val_main_v33 (F := Ideal) X W j = pre X W j * Ideal.div 1 (1 + Ideal.exp (-pre X W j)) := by
  pointwise [val_main_v33, val_main_v32, val_main_call1_v5, val_main_call1_v4, val_main_call1_cst_0, val_main_call1_v3,
    val_main_call1_v2, val_main_call1_cst, val_main_call1_v1, val_main_call1_v0, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_call0_v0, val_main_c, val_main_v3,
    val_main_v2, val_main_v1, val_main_v0]
  simp only [pre, tap, zero_word, Nat.zero_add]

/-- What a grid point reads `16 - o` rows up is the reference's tap, whether the row is its own or one of the rows before. -/
theorem tap_at (c : Dev nD) (t : Fin cfg0.N) (o : ℕ) (ho : 13 ≤ o ∧ o ≤ 15) (y : S512x1536.Idx) (hy : ∀ h : ¬ o + (y 0).val < 16, o + (y 0).val - 16 < 512) :
    (if h : o + (y 0).val < 16 then
        Scalar.select (Scalar.cmpi CmpIPredicate.sgt (BitVec.ofNat 32 ((grid0.coords t) 0).val) 0#32) (X0_1 m c t (ix2 ⟨o + (y 0).val, h⟩ (y 1))) (0 : EReal)
      else X0_0 m c t (ix2 ⟨o + (y 0).val - 16, hy h⟩ (y 1)))
    = tap (m ((c : Thread nD τ).loc main_arg0)) (o - 13) (ix2 ⟨t.val * 512 + (y 0).val, row_lt t (y 0)⟩ (y 1)) := by
  have h8 := row_lt t (y 0)
  simp only [before_at, rows_at, tap]
  change _ = if h : 3 ≤ o - 13 + (t.val * 512 + (y 0).val) ∧ o - 13 + (t.val * 512 + (y 0).val) - 3 < 8192 then _ else _
  split_ifs with h h3 h3
  · refine (choice t _ _).trans ((if_pos (by omega)).trans (congrArg _ ?_))
    blk_ext!
  · exact (choice t _ _).trans (if_neg (by omega))
  · refine congrArg _ ?_
    blk_ext!
  · omega

/-- After the run the result is the reference's. -/
theorem final (c : Dev nD) : (dats m 0 c).arrAt 3 (cfgs 0).N = val_main_v33 (F := Ideal) (m ((c : Thread nD τ).loc main_arg0)) (m ((c : Thread nD τ).loc main_arg1)) := by
  refine (dats m 0 c).arrAt_eq_of_covers 3 _ (by decide +kernel) fun t hf y => ?_
  blk_simp
  have e : ((View.whole main_v0).slice (win0_3.rect t)).emb y = (ix2 ⟨t.val * 512 + (y 0).val, row_lt t (y 0)⟩ (y 1) : S8192x1536.Idx) := by
    blk_ext! [idx t]
  rw [after0_3, ref_entry, e]
  unfold outsAt0
  frame_out
  pointwise [k0_pay1]
  simp only [zero_sub, pre]
  rw [tap_at m c t 13 (by decide), tap_at m c t 14 (by decide), tap_at m c t 15 (by decide)]
  simp only [rows_at]
  blk_point [iblk, V, idx t]

end Cert.Kernel30Ideal.ConvForward
-- ==== Proof.GatesForward.lean ====
/-
  The narrow product `h · w_ba` that makes the delta rule's gates: each grid point writes 1024 rows.
-/
module

public import proofs.«01_k».proof.Proof.Gen.Kernel31Ideal.Frame
public import proofs.«01_k».proof.Proof.Gen.Reference31Ideal.Read
public import Idealize.ShloMosaic.Lib.Pipeline.ValueKit
public import Idealize.ShloMosaic.Lib.Pipeline.ReadBack

@[expose] public section

set_option maxRecDepth 16384

noncomputable section

namespace Cert.Kernel31Ideal.GatesForward

open Cert.Kernel31Ideal Cert.Kernel31Ideal.Gen Idealize.ShloMosaic Idealize.ShloMosaic.TcCoe Idealize.SL.Sem
open Idealize.ShloMosaic.Pipeline (Dat)
open Cert.Reference31Ideal.Read

/-- The block index of every window at every grid point. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- After the run the result is the reference's. -/
theorem final (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, val_main_v4, val_main_v3, val_main_v1, val_main_v2, val_main_v0]
  blk_point [iblk, V, idx t]

end Cert.Kernel31Ideal.GatesForward
-- ==== Proof.GatesWeight.lean ====
/-
  The weight gradient of the narrow product, `hᵀ · dba`: grid point `t` adds the products of rows `2048·t …` into a scratch buffer;
  the last of the four points writes the result.
-/
module

public import proofs.«01_k».proof.Proof.Gen.Kernel32Ideal.Frame
public import proofs.«01_k».proof.Proof.Gen.Reference32Ideal.Read
public import Idealize.ShloMosaic.Lib.Pipeline.ValueKit
public import Idealize.ShloMosaic.Lib.Pipeline.ReadBack

@[expose] public section

set_option maxRecDepth 16384

noncomputable section

namespace Cert.Kernel32Ideal.GatesWeight

open Cert.Kernel32Ideal Cert.Kernel32Ideal.Gen Idealize.ShloMosaic Idealize.ShloMosaic.TcCoe Idealize.SL.Sem
open Idealize.ShloMosaic.Pipeline (Dat)
open Cert.Reference32Ideal.Read

/-- The block index of every window at every grid point. -/
theorem idx : ∀ t : Fin cfg0.N, win0_0.index t = ![t.val % 4, 0] ∧ win0_1.index t = ![t.val % 4, 0]
    ∧ win0_2.index t = ![0, 0] :=
  (by decide +kernel : ∀ t : Fin grid0.N, _)

theorem row_lt (t : Fin cfg0.N) (r : Fin 2048) : t.val % 4 * 2048 + r.val < 8192 := by
  omega

/-- What row `r` contributes to entry `j` of the result. -/
def term (H : FVec Ideal S8192x1024 .bf16) (Q : FVec Ideal S8192x128 .bf16) (r : Fin 8192) (j : S1024x128.Idx) : EReal :=
  H (ix2 r (j 0)) * Q (ix2 r (j 1))

/-- The reference's entry is the sum over all rows. -/
theorem ref_entry (H : FVec Ideal S8192x1024 .bf16) (Q : FVec Ideal S8192x128 .bf16) (j : S1024x128.Idx) :
    val_main_v8 (F := Ideal) H Q j = ∑ r : Fin 8192, term H Q r j := by
  pointwise [term, val_main_v8, val_main_v7, val_main_v6, val_main_v3, val_main_v2, val_main_v1, val_main_v0]
  rw [Fin.sum_univ_one]
  exact Finset.sum_congr rfl fun r _ => mul_comm _ _

variable (m : (ℓ : Loc nD τ sig) → Buf (Elt Ideal) ℓ)

/-- What grid point `t` adds to its block of the result: the contributions of its 2048 rows. -/
def part (c : Dev nD) (t : Fin cfg0.N) (y : S1024x128.Idx) : EReal :=
  ∑ r : Fin 2048, term (m ((c : Thread nD τ).loc main_arg0)) (m ((c : Thread nD τ).loc main_arg1)) ⟨t.val % 4 * 2048 + r.val, row_lt t r⟩
    (ix2 (y 0) (y 1))

/-- The first point of a block clears the scratch and adds its part. -/
theorem first (c : Dev nD) (t : Fin cfg0.N) (h0 : t.val % 4 = 0) (y : S1024x128.Idx) :
    (outsAt0 m c t.val t.isLt).2 y = 0 + part m c t y := by
  rw [outsAt0_A m c t h0 (by omega)]
  frame_open
  simp (disch := decide) only [↓ View.readCov_skip, ↓ View.readCov_cons_toLoadRect, ↓ View.readCov_fill]
  frame_out
  pointwise [k0_pay2, k0_pay1, part, term]
  blk_point [iblk, V, idx t]

/-- A later point adds its part to what the point before left. -/
theorem next (c : Dev nD) (t : Fin cfg0.N) (h0 : ¬ t.val % 4 = 0) (y : S1024x128.Idx) :
    (outsAt0 m c t.val t.isLt).2 y
      = (outsAt0 m c (t.val - 1) (Nat.lt_of_le_of_lt (Nat.sub_le _ _) t.isLt)).2 y + part m c t y := by
  by_cases h1 : t.val % 4 = 3
  · rw [outsAt0_C m c t h0 h1]
    frame_out
    pointwise [k0_pay2, part, term, read_unread_whole]
    blk_point [iblk, V, idx t]
  · rw [outsAt0_B m c t h0 h1]
    frame_out
    pointwise [k0_pay2, part, term, read_unread_whole]
    blk_point [iblk, V, idx t]

/-- The last point of a block writes the scratch out. -/
theorem out (c : Dev nD) (t : Fin cfg0.N) (h1 : t.val % 4 = 3) (y : S1024x128.Idx) :
    (outsAt0 m c t.val t.isLt).1 y = (outsAt0 m c t.val t.isLt).2 y := by
  rw [outsAt0_C m c t (by omega) h1]
  frame_out
  pointwise [k0_pay3, k0_pay2]

/-- After the run the result is the reference's. -/
theorem final (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2, out m c t h3, ref_entry, Pipeline.eq_sum_fin_of_reset_step_apply_of_flush (fun n h => (outsAt0 m c n h).2) 4 (fun _ => 0) (part m c)
    (fun t h j => first m c t h j) (fun t h j => next m c t h j) t h3 _, zero_add]
  refine Fin.sum_mul_add_congr fun s k hl => ?_
  have e1 : (4 * (t.val / 4) + s.val) % 4 = s.val := by omega
  have e2 : (4 * (t.val / 4) + s.val) / 4 = t.val / 4 := by omega
  simp only [term, e1, e2]
  blk_point [idx t]

end Cert.Kernel32Ideal.GatesWeight
-- ==== Proof.GatesInput.lean ====
/-
  The input gradient of the narrow product, `dba · w_baᵀ`, added to the main product's: each grid point writes 1024 × 512 entries.
-/
module

public import proofs.«01_k».proof.Proof.Gen.Kernel33Ideal.Frame
public import proofs.«01_k».proof.Proof.Gen.Reference33Ideal.Read
public import Idealize.ShloMosaic.Lib.Pipeline.ValueKit
public import Idealize.ShloMosaic.Lib.Pipeline.ReadBack

@[expose] public section

set_option maxRecDepth 16384

noncomputable section

namespace Cert.Kernel33Ideal.GatesInput

open Cert.Kernel33Ideal Cert.Kernel33Ideal.Gen Idealize.ShloMosaic Idealize.ShloMosaic.TcCoe Idealize.SL.Sem
open Idealize.ShloMosaic.Pipeline (Dat)
open Cert.Reference33Ideal.Read

/-- The block index of every window at every grid point. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

variable (m : (ℓ : Loc nD τ sig) → Buf (Elt Ideal) ℓ)

/-- After the run the result is the reference's. -/
theorem final (c : Dev nD) : (dats m 0 c).arrAt 3 (cfgs 0).N = val_main_v8 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, val_main_v8, val_main_v7, val_main_v6, val_main_v5, val_main_v2, val_main_v1, val_main_v0]
  blk_point [iblk, V, idx t]

end Cert.Kernel33Ideal.GatesInput
-- ==== Proof.ConvGrad.lean ====
/-
  The gradient of the short convolution: each grid point works on 512 rows, on the last three of the rows before them and on the first
  three of the rows after them, and adds its rows to the weight's gradient.
-/
module

public import proofs.«01_k».proof.Proof.Gen.Kernel34Ideal.Frame
public import proofs.«01_k».proof.Proof.Gen.Reference34Ideal.Read
public import proofs.«01_k».proof.Proof.Gen.Pre_finite34
public import proofs.«01_k».proof.Proof.Finite
public import proofs.«01_k».proof.Proof.UnitSums
public import Idealize.ShloMosaic.Lib.Pipeline.ValueKit
public import Idealize.ShloMosaic.Lib.Pipeline.ReadBack

@[expose] public section

set_option maxRecDepth 16384

noncomputable section

namespace Cert.Kernel34Ideal.ConvGrad

open Cert.Kernel34Ideal Cert.Kernel34Ideal.Gen Idealize.ShloMosaic Idealize.ShloMosaic.TcCoe Idealize.SL.Sem
open Idealize.ShloMosaic.Pipeline (Dat)
open Cert.Reference34Ideal.Read

/-- The block index of every window at every grid point. -/
theorem idx : ∀ t : Fin cfg0.N, win0_0.index t = ![t.val, 1] ∧ win0_1.index t = ![t.val * 32 - 1, 1] ∧ win0_2.index t = ![min (t.val * 32 + 32) 511, 1]
    ∧ win0_3.index t = ![0, 0] ∧ win0_4.index t = ![t.val, 0] ∧ win0_5.index t = ![min (t.val * 32 + 32) 511, 0] ∧ win0_6.index t = ![t.val, 1]
    ∧ win0_7.index t = ![0, 0] :=
  (by decide +kernel : ∀ t : Fin grid0.N, _)

/-- The first grid coordinate is the grid point. -/
theorem coord : ∀ t : Fin cfg0.N, ((grid0.coords t) 0).val = t.val :=
  (by decide +kernel : ∀ t : Fin grid0.N, _)

theorem t_lt (t : Fin cfg0.N) : t.val < 16 := lt_of_lt_of_eq t.isLt N_0

theorem row_lt (t : Fin cfg0.N) (r : Fin 512) : t.val * 512 + r.val < 8192 := by
  have := t_lt t
  omega

theorem before_lt (t : Fin cfg0.N) (r : Fin 16) : (t.val * 32 - 1) * 16 + r.val < 8192 := by
  have := t_lt t
  omega

theorem after_lt (t : Fin cfg0.N) (r : Fin 16) : min (t.val * 32 + 32) 511 * 16 + r.val < 8192 := by
  omega

theorem col_lt (q : Fin 1536) : 1536 + q.val < 6912 := by
  omega

/-- The choices by the grid point. -/
theorem choice_before (t : Fin cfg0.N) (a b : EReal) :
    Scalar.select (Scalar.cmpi CmpIPredicate.sgt (BitVec.ofNat 32 ((grid0.coords t) 0).val) 0#32) a b = if 0 < t.val then a else b := by
  rw [coord]
  have h : ∀ t : Fin cfg0.N, Scalar.cmpi CmpIPredicate.sgt (BitVec.ofNat 32 t.val) 0#32 = if 0 < t.val then 1 else 0 :=
    (by decide +kernel : ∀ t : Fin grid0.N, _)
  rw [h t]
  unfold Scalar.select
  split <;> simp

theorem choice_after (t : Fin cfg0.N) (a b : EReal) :
    Scalar.select (Scalar.cmpi CmpIPredicate.slt (BitVec.ofNat 32 ((grid0.coords t) 0).val) 15#32) a b = if t.val < 15 then a else b := by
  rw [coord]
  have h : ∀ t : Fin cfg0.N, Scalar.cmpi CmpIPredicate.slt (BitVec.ofNat 32 t.val) 15#32 = if t.val < 15 then 1 else 0 :=
    (by decide +kernel : ∀ t : Fin grid0.N, _)
  rw [h t]
  unfold Scalar.select
  split <;> simp

theorem zero_word : (FloatOps.sitofp FTy.f32 0#32 : Ideal .f32) = (0 : EReal) := by
  show (((0#32 : BitVec 32).toInt : ℝ) : EReal) = 0
  simp

section Reference
variable (X : FVec Ideal S8192x6912 .bf16) (W : FVec Ideal S16x1536 .f32) (D : FVec Ideal S8192x1536 .f32) (DP : FVec Ideal S8192x6912 .bf16)

/-- Row `r` of the convolved columns with three rows of zeros before them, and zeros after them. -/
def row (r : ℕ) (q : Fin 1536) : EReal :=
  if h : 3 ≤ r ∧ r - 3 < 8192 then X (ix2 ⟨r - 3, h.2⟩ ⟨1536 + q.val, col_lt q⟩) else 0

/-- Row `r` of the convolution before its activation. -/
def pre (r : ℕ) (q : Fin 1536) : EReal :=
  row X r q * W (ix2 0 q) + row X (r + 1) q * W (ix2 1 q) + row X (r + 2) q * W (ix2 2 q) + row X (r + 3) q * W (ix2 3 q)

/-- Row `r` of the gradient that arrives, zero after the last. -/
def cot (r : ℕ) (q : Fin 1536) : EReal := if h : r < 8192 then D (ix2 ⟨r, h⟩ q) else 0

/-- Row `r` of that gradient through the activation. -/
def grad (r : ℕ) (q : Fin 1536) : EReal :=
  cot D r q * Ideal.div 1 (1 + Ideal.exp (-pre X W r q)) * (1 + pre X W r q * (1 - Ideal.div 1 (1 + Ideal.exp (-pre X W r q))))

/-- What row `r` adds to the weight's gradient. -/
def term (r : ℕ) (j : S16x1536.Idx) : EReal :=
  if (j 0).val < 4 then row X (r + (j 0).val) (j 1) * grad X W D r (j 1) else 0

/-- After the last row there is no gradient. -/
theorem grad_end (r : ℕ) (q : Fin 1536) (h : ¬ r < 8192) : grad X W D r q = 0 := by
  simp [grad, cot, h]

theorem ref_row (u : Fin 8195) (q : Fin 1536) : val_main_v5 (F := Ideal) X (ix3 0 u q) = row X u.val q := by
  pointwise [val_main_v5, val_main_v4, val_main_cst, val_main_v2, val_main_v1, val_main_v0]
  have hu := u.isLt
  unfold row
  by_cases h : u.val < 3
  · rw [dif_pos h, dif_neg (by omega)]
  · rw [dif_neg h, dif_pos (by omega)]

theorem ref_pre (r : Fin 8192) (q : Fin 1536) : val_main_v33 (F := Ideal) X W (ix3 0 r q) = pre X W r.val q := by
  pointwise [val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v3]
  simp only [ref_row, pre]
  simp only [Nat.add_comm, Nat.zero_add, Nat.add_zero]

theorem ref_grad (hD : ∀ i, Finite.IsReal (D i)) (r : Fin 8192) (q : Fin 1536) :
    val_main_v36 (F := Ideal) X W D (ix3 0 r q) = grad X W D r.val q := by
  pointwise [val_main_v36, val_main_call1_v2, val_main_call1_v1, val_main_call1_v0, val_main_v35, val_main_v34_1, val_main_v34_2,
    val_main_call0_v7, val_main_call0_v6, val_main_call0_cst_1, val_main_call0_v4, val_main_call0_cst_0, val_main_call0_v3,
    val_main_call0_v2, val_main_call0_cst, val_main_call0_v1, val_main_call0_v0]
  simp only [ref_pre]
  rw [Finite.silu_grad _ _ (hD _)]
  simp only [grad, cot, dif_pos r.isLt]

/-- The reference's gradient at a column of the convolved section. -/
theorem ref_input (hD : ∀ i, Finite.IsReal (D i)) (r : Fin 8192) (q : Fin 1536) :
    val_main_v87 (F := Ideal) X W D DP (ix2 r ⟨1536 + q.val, col_lt q⟩)
      = grad X W D r.val q * W (ix2 3 q) + grad X W D (r.val + 1) q * W (ix2 2 q) + grad X W D (r.val + 2) q * W (ix2 1 q)
        + grad X W D (r.val + 3) q * W (ix2 0 q) := by
  pointwise [val_main_v87, val_main_v86, val_main_v83, val_main_v80, val_main_v78, val_main_v77, val_main_v72, val_main_v71,
    val_main_v67, val_main_v66, val_main_v61, val_main_v60, val_main_v56, val_main_v55, val_main_v50, val_main_v49, val_main_v45,
    val_main_v41, val_main_v40, val_main_cst_4, val_main_cst_8, val_main_cst_12, val_main_cst_16, val_main_v30, val_main_v29, val_main_v28,
    val_main_v23, val_main_v22, val_main_v21, val_main_v16, val_main_v15, val_main_v14, val_main_v10, val_main_v9, val_main_v8, val_main_v3]
  simp only [ref_grad X W D hD]
  have g : ∀ (p : Prop) [Decidable p] (n k : ℕ) (w : EReal), n = k → (p ↔ k < 8192) →
      (if h : p then grad X W D n q * w else 0) = grad X W D k q * w := by
    intro p _ n k w e hp
    subst e
    by_cases h : p
    · rw [dif_pos h]
    · rw [dif_neg h, grad_end X W D n q (fun hn => h (hp.2 hn)), zero_mul]
  rw [g _ _ (r.val + 1) _ (by omega) (by omega), g _ _ (r.val + 2) _ (by omega) (by omega), g _ _ (r.val + 3) _ (by omega) (by omega)]

/-- Outside that section the reference leaves `dproj` as it came. -/
theorem ref_rest (r : Fin 8192) (l : Fin 6912) (h : ¬(1536 ≤ l.val ∧ l.val < 3072)) :
    val_main_v87 (F := Ideal) X W D DP (ix2 r l) = DP (ix2 r l) := by
  pointwise [val_main_v87, val_main_v86, val_main_v85, val_main_v84, val_main_v82, val_main_v81]
  by_cases h0 : l.val < 1536
  · rw [dif_pos h0]
  · rw [dif_neg h0, dif_neg (by omega)]
    refine congrArg DP (congrArg (ix2 r) (Fin.ext ?_))
    show 3072 + (l.val - 1536 - 1536) = l.val
    omega

/-- The reference's gradient of the weight is the sum of what the rows add. -/
theorem ref_weight_at (hD : ∀ i, Finite.IsReal (D i)) (a : Fin 16) (q : Fin 1536) :
    val_main_v88 (F := Ideal) X W D (ix2 a q) = ∑ r : Fin 8192, term X W D r.val (ix2 a q) := by
  pointwise [val_main_v88, val_main_call2_v0, val_main_c, val_main_v76, val_main_v75, val_main_cst_15, val_main_v74, val_main_v73,
    val_main_cst_14, val_main_v70, val_main_v69, val_main_cst_13, val_main_v68, val_main_v7, val_main_v65, val_main_v64,
    val_main_cst_11, val_main_v63, val_main_v62, val_main_cst_10, val_main_v59, val_main_v58, val_main_cst_9, val_main_v57,
    val_main_v13, val_main_v54, val_main_v53, val_main_cst_7, val_main_v52, val_main_v51, val_main_cst_6, val_main_v48,
    val_main_v47, val_main_cst_5, val_main_v46, val_main_v20, val_main_v44, val_main_cst_3, val_main_v43, val_main_v42,
    val_main_cst_2, val_main_v39, val_main_v38, val_main_cst_1, val_main_v37, val_main_v27, UnitSums.hostReduceAdd_row]
  simp only [ref_grad X W D hD, ref_row, zero_word]
  change _ = ∑ r : Fin 8192, if a.val < 4 then row X (r.val + a.val) q * grad X W D r.val q else 0
  by_cases ha : a.val < 4
  · simp only [dif_pos ha, if_pos ha]
    have h4 : a.val = 0 ∨ a.val = 1 ∨ a.val = 2 ∨ a.val = 3 := by omega
    rcases h4 with e | e | e | e <;> simp [e, Nat.add_comm]
  · simp [ha]

theorem ref_weight (hD : ∀ i, Finite.IsReal (D i)) (j : S16x1536.Idx) :
    val_main_v88 (F := Ideal) X W D j = ∑ r : Fin 8192, term X W D r.val j := by
  have e : j = ix2 (j 0) (j 1) := by
    funext a
    fin_cases a <;> rfl
  rw [e]
  exact ref_weight_at X W D hD (j 0) (j 1)

end Reference

variable (m : (ℓ : Loc nD τ sig) → Buf (Elt Ideal) ℓ)

section Blocks

theorem rows_at (c : Dev nD) (t : Fin cfg0.N) (j : S512x1536.Idx) :
    X0_0 m c t j = (m ((c : Thread nD τ).loc main_arg0) : FVec Ideal S8192x6912 .bf16)
      (ix2 ⟨t.val * 512 + (j 0).val, row_lt t (j 0)⟩ ⟨1536 + (j 1).val, col_lt (j 1)⟩) := by
  unfold X0_0 Pipeline.Window.fill
  rw [dif_pos (moved0_0 t _)]
  blk_ext! [iblk, V, idx t]

theorem before_at (c : Dev nD) (t : Fin cfg0.N) (j : S16x1536.Idx) :
    X0_1 m c t j = (m ((c : Thread nD τ).loc main_arg0) : FVec Ideal S8192x6912 .bf16)
      (ix2 ⟨(t.val * 32 - 1) * 16 + (j 0).val, before_lt t (j 0)⟩ ⟨1536 + (j 1).val, col_lt (j 1)⟩) := by
  unfold X0_1 Pipeline.Window.fill
  rw [dif_pos (moved0_1 t _)]
  blk_ext! [iblk, V, idx t]

theorem after_at (c : Dev nD) (t : Fin cfg0.N) (j : S16x1536.Idx) :
    X0_2 m c t j = (m ((c : Thread nD τ).loc main_arg0) : FVec Ideal S8192x6912 .bf16)
      (ix2 ⟨min (t.val * 32 + 32) 511 * 16 + (j 0).val, after_lt t (j 0)⟩ ⟨1536 + (j 1).val, col_lt (j 1)⟩) := by
  unfold X0_2 Pipeline.Window.fill
  rw [dif_pos (moved0_2 t _)]
  blk_ext! [iblk, V, idx t]

theorem weight_at (c : Dev nD) (t : Fin cfg0.N) (j : S16x1536.Idx) :
    iblk m c 3 t j = (m ((c : Thread nD τ).loc main_arg1) : FVec Ideal S16x1536 .f32) j := by
  blk_ext! [iblk, V, idx t]

theorem cot_at (c : Dev nD) (t : Fin cfg0.N) (j : S512x1536.Idx) :
    iblk m c 4 t j = (m ((c : Thread nD τ).loc main_arg2) : FVec Ideal S8192x1536 .f32) (ix2 ⟨t.val * 512 + (j 0).val, row_lt t (j 0)⟩ (j 1)) := by
  blk_ext! [iblk, V, idx t]

theorem cot_after_at (c : Dev nD) (t : Fin cfg0.N) (j : S16x1536.Idx) :
    iblk m c 5 t j = (m ((c : Thread nD τ).loc main_arg2) : FVec Ideal S8192x1536 .f32)
      (ix2 ⟨min (t.val * 32 + 32) 511 * 16 + (j 0).val, after_lt t (j 0)⟩ (j 1)) := by
  blk_ext! [iblk, V, idx t]

/-- The rows a grid point puts together, from the thirteenth on. -/
theorem padded_at (c : Dev nD) (t : Fin cfg0.N) (u : Fin 544) (hu : 13 ≤ u.val) (q : Fin 1536) :
    k0_pay4 (F := Ideal) (grid0.coords t) (X0_1 m c t) (X0_0 m c t) (X0_2 m c t) (ix2 u q)
      = row (m ((c : Thread nD τ).loc main_arg0)) (t.val * 512 + u.val - 13) q := by
  have ht := t_lt t
  pointwise [k0_pay4]
  unfold row
  by_cases h1 : u.val < 16
  · rw [dif_pos h1]
    refine (choice_before t _ _).trans ?_
    by_cases h0 : 0 < t.val
    · rw [if_pos h0, dif_pos (by omega), before_at]
      blk_ext!
    · rw [if_neg h0, dif_neg (by omega)]
  · rw [dif_neg h1]
    by_cases h2 : u.val - 16 < 512
    · rw [dif_pos h2, dif_pos (by omega), rows_at]
      blk_ext!
    · rw [dif_neg h2]
      refine (choice_after t _ _).trans ?_
      by_cases h0 : t.val < 15
      · rw [if_pos h0, dif_pos (by omega), after_at]
        blk_ext!
      · rw [if_neg h0, dif_neg (by omega)]

theorem pre_at (c : Dev nD) (t : Fin cfg0.N) (u : Fin 528) (q : Fin 1536) :
    k0_pay9 (F := Ideal) (grid0.coords t) (iblk m c 3 t) (X0_1 m c t) (X0_0 m c t) (X0_2 m c t) (ix2 u q)
      = pre (m ((c : Thread nD τ).loc main_arg0)) (m ((c : Thread nD τ).loc main_arg1)) (t.val * 512 + u.val) q := by
  pointwise [k0_pay9, k0_pay5, k0_pay6, k0_pay7, k0_pay8]
  have p : ∀ (o : ℕ) (ho : 13 ≤ o ∧ o ≤ 16), k0_pay4 (F := Ideal) (grid0.coords t) (X0_1 m c t) (X0_0 m c t) (X0_2 m c t) (ix2 ⟨o + u.val, by omega⟩ q)
      = row (m ((c : Thread nD τ).loc main_arg0)) (t.val * 512 + u.val + (o - 13)) q := fun o ho => by
    rw [padded_at m c t ⟨o + u.val, by omega⟩ (by show 13 ≤ o + u.val; omega) q]
    congr 1
    show t.val * 512 + (o + u.val) - 13 = _
    omega
  rw [p 13 (by decide), p 14 (by decide), p 15 (by decide), p 16 (by decide)]
  simp only [weight_at, pre, Nat.reduceSub, Nat.add_zero]

/-- The four shifted copies of the rows. -/
theorem taps_at (c : Dev nD) (t : Fin cfg0.N) (u : Fin 528) (q : Fin 1536) :
    k0_pay5 (F := Ideal) (grid0.coords t) (X0_1 m c t) (X0_0 m c t) (X0_2 m c t) (ix2 u q) = row (m ((c : Thread nD τ).loc main_arg0)) (t.val * 512 + u.val) q
    ∧ k0_pay6 (F := Ideal) (grid0.coords t) (X0_1 m c t) (X0_0 m c t) (X0_2 m c t) (ix2 u q) = row (m ((c : Thread nD τ).loc main_arg0)) (t.val * 512 + u.val + 1) q
    ∧ k0_pay7 (F := Ideal) (grid0.coords t) (X0_1 m c t) (X0_0 m c t) (X0_2 m c t) (ix2 u q) = row (m ((c : Thread nD τ).loc main_arg0)) (t.val * 512 + u.val + 2) q
    ∧ k0_pay8 (F := Ideal) (grid0.coords t) (X0_1 m c t) (X0_0 m c t) (X0_2 m c t) (ix2 u q) = row (m ((c : Thread nD τ).loc main_arg0)) (t.val * 512 + u.val + 3) q := by
  refine ⟨?_, ?_, ?_, ?_⟩ <;> pointwise [k0_pay5, k0_pay6, k0_pay7, k0_pay8] <;> rw [padded_at m c t _ (by simp <;> omega) q] <;> congr 1 <;> simp <;> omega

theorem grad_at (c : Dev nD) (t : Fin cfg0.N) (u : Fin 528) (q : Fin 1536) :
    k0_pay11 (F := Ideal) (Scalar.cmpi .slt (BitVec.ofNat 32 ((grid0.coords t) 0).val) 15#32)
        (k0_pay9 (grid0.coords t) (iblk m c 3 t) (X0_1 m c t) (X0_0 m c t) (X0_2 m c t))
        (k0_pay10 (grid0.coords t) (iblk m c 3 t) (X0_1 m c t) (X0_0 m c t) (X0_2 m c t)) (1 : EReal) (iblk m c 4 t) (iblk m c 5 t) (ix2 u q)
      = grad (m ((c : Thread nD τ).loc main_arg0)) (m ((c : Thread nD τ).loc main_arg1)) (m ((c : Thread nD τ).loc main_arg2)) (t.val * 512 + u.val) q := by
  have ht := t_lt t
  pointwise [k0_pay11, k0_pay10]
  simp only [zero_sub, pre_at, grad]
  congr 2
  unfold cot
  by_cases h : u.val < 512
  · rw [dif_pos h, dif_pos (by omega), cot_at]
    rfl
  · rw [dif_neg h]
    refine (choice_after t _ _).trans ?_
    by_cases h0 : t.val < 15
    · rw [if_pos h0, dif_pos (by omega), cot_after_at]
      blk_ext!
    · rw [if_neg h0, dif_neg (by omega)]

/-- What a grid point adds to the weight's gradient: what its rows add. -/
def part (c : Dev nD) (t : Fin cfg0.N) (j : S16x1536.Idx) : EReal :=
  ∑ r : Fin 512, term (m ((c : Thread nD τ).loc main_arg0)) (m ((c : Thread nD τ).loc main_arg1)) (m ((c : Thread nD τ).loc main_arg2)) (t.val * 512 + r.val) j

theorem part_at (c : Dev nD) (t : Fin cfg0.N) (prev : FVec Ideal S16x1536 .f32) (a : Fin 16) (q : Fin 1536) (v9 : BitVec 1)
    (hv : v9 = Scalar.cmpi .slt (BitVec.ofNat 32 ((grid0.coords t) 0).val) 15#32) (P9 P10 : FVec Ideal S528x1536 .f32) (one : Ideal .f32)
    (h9 : P9 = k0_pay9 (grid0.coords t) (iblk m c 3 t) (X0_1 m c t) (X0_0 m c t) (X0_2 m c t))
    (h10 : P10 = k0_pay10 (grid0.coords t) (iblk m c 3 t) (X0_1 m c t) (X0_0 m c t) (X0_2 m c t)) (hone : one = (1 : EReal)) :
    k0_pay2 (F := Ideal) (k0_pay8 (grid0.coords t) (X0_1 m c t) (X0_0 m c t) (X0_2 m c t)) (k0_pay11 v9 P9 P10 one (iblk m c 4 t) (iblk m c 5 t))
        (k0_pay12 v9 (k0_pay5 (grid0.coords t) (X0_1 m c t) (X0_0 m c t) (X0_2 m c t)) P9 P10 one (iblk m c 4 t) (iblk m c 5 t))
        (k0_pay13 v9 (k0_pay6 (grid0.coords t) (X0_1 m c t) (X0_0 m c t) (X0_2 m c t)) P9 P10 one (iblk m c 4 t) (iblk m c 5 t))
        (k0_pay15 v9 (k0_pay7 (grid0.coords t) (X0_1 m c t) (X0_0 m c t) (X0_2 m c t)) P9 P10 one (iblk m c 4 t) (iblk m c 5 t)) prev (ix2 a q)
      = prev (ix2 a q) + part m c t (ix2 a q) := by
  subst hv h9 h10 hone
  pointwise [k0_pay2, k0_pay12, k0_pay13, k0_pay15]
  simp only [grad_at, taps_at]
  refine congrArg (prev (ix2 a q) + ·) ?_
  change _ = ∑ r : Fin 512, if a.val < 4 then row (m ((c : Thread nD τ).loc main_arg0)) (t.val * 512 + r.val + a.val) q
    * grad (m ((c : Thread nD τ).loc main_arg0)) (m ((c : Thread nD τ).loc main_arg1)) (m ((c : Thread nD τ).loc main_arg2)) (t.val * 512 + r.val) q else 0
  by_cases ha : a.val < 4
  · simp only [if_pos ha, mul_comm (row _ _ _) (grad _ _ _ _ _)]
    have h4 : a.val = 0 ∨ a.val = 1 ∨ a.val = 2 ∨ a.val = 3 := by omega
    rcases h4 with e | e | e | e <;> simp [e]
  · simp only [if_neg ha, Finset.sum_const_zero]
    rw [dif_neg (by omega), dif_neg (by omega), dif_neg (by omega), dif_neg (by omega)]

theorem turn (a b c d : EReal) : a + b + c + d = d + c + b + a := by
  rw [add_comm (a + b + c) d, add_comm (a + b) c, add_comm a b, ← add_assoc, ← add_assoc]

/-- What a grid point makes of its rows: the sum over the taps. -/
theorem sum_at (c : Dev nD) (t : Fin cfg0.N) (r : Fin 512) (q : Fin 1536) (v9 : BitVec 1)
    (hv : v9 = Scalar.cmpi .slt (BitVec.ofNat 32 ((grid0.coords t) 0).val) 15#32) (P9 P10 : FVec Ideal S528x1536 .f32) (one : Ideal .f32)
    (h9 : P9 = k0_pay9 (grid0.coords t) (iblk m c 3 t) (X0_1 m c t) (X0_0 m c t) (X0_2 m c t))
    (h10 : P10 = k0_pay10 (grid0.coords t) (iblk m c 3 t) (X0_1 m c t) (X0_0 m c t) (X0_2 m c t)) (hone : one = (1 : EReal))
    (hD : ∀ i, Finite.IsReal ((m ((c : Thread nD τ).loc main_arg2) : FVec Ideal S8192x1536 .f32) i)) (DP : FVec Ideal S8192x6912 .bf16) :
    k0_pay1 (F := Ideal) (k0_pay14 (iblk m c 3 t) v9 P9 P10 one (iblk m c 4 t) (iblk m c 5 t))
        (k0_pay16 (iblk m c 3 t) v9 P9 P10 one (iblk m c 4 t) (iblk m c 5 t)) (ix2 r q)
      = val_main_v87 (F := Ideal) (m ((c : Thread nD τ).loc main_arg0)) (m ((c : Thread nD τ).loc main_arg1)) (m ((c : Thread nD τ).loc main_arg2)) DP
          (ix2 ⟨t.val * 512 + r.val, row_lt t r⟩ ⟨1536 + q.val, col_lt q⟩) := by
  subst hv h9 h10 hone
  rw [ref_input _ _ _ _ hD]
  pointwise [k0_pay1, k0_pay14, k0_pay16]
  simp only [grad_at, weight_at]
  have e : ∀ k : ℕ, t.val * 512 + (k + r.val) = t.val * 512 + r.val + k := fun k => by omega
  rw [e 1, e 2, e 3]
  exact turn _ _ _ _

end Blocks

theorem idx_eq (j : S16x1536.Idx) : j = ix2 (j 0) (j 1) := by
  funext a
  fin_cases a <;> rfl

theorem weight_first (c : Dev nD) (t : Fin cfg0.N) (h0 : t.val % 16 = 0) (a : Fin 16) (q : Fin 1536) : (outsAt0 m c t.val t.isLt).2 (ix2 a q) = 0 + part m c t (ix2 a q) := by
  rw [outsAt0_A m c t h0]
  frame_open
  simp (disch := decide) only [↓ View.readCov_skip, ↓ View.readCov_cons_toLoadRect, ↓ View.readCov_fill]
  frame_out
  refine (part_at m c t _ a q _ rfl _ _ _ rfl rfl (by pointwise []) ).trans ?_
  pointwise [k0_pay3]

theorem weight_next (c : Dev nD) (t : Fin cfg0.N) (h0 : ¬ t.val % 16 = 0) (a : Fin 16) (q : Fin 1536) :
    (outsAt0 m c t.val t.isLt).2 (ix2 a q)
      = (outsAt0 m c (t.val - 1) (Nat.lt_of_le_of_lt (Nat.sub_le _ _) t.isLt)).2 (ix2 a q) + part m c t (ix2 a q) := by
  rw [outsAt0_B m c t h0]
  frame_out
  exact part_at m c t _ a q _ rfl _ _ _ rfl rfl (by pointwise [])

/-- After the run the gradient of the weight is the reference's. -/
theorem final_weight (c : Dev nD) (hD : ∀ i, Finite.IsReal ((m ((c : Thread nD τ).loc main_arg2) : FVec Ideal S8192x1536 .f32) i)) :
    (dats m 0 c).arrAt 7 (cfgs 0).N = val_main_v88 (F := Ideal) (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7, ref_weight _ _ _ hD]
  refine (Pipeline.eq_sum_fin_of_reset_step_apply_last (fun n h => (outsAt0 m c n h).2) 16 (fun _ => 0) (part m c)
    (fun t h j => (by rw [idx_eq j]; exact weight_first m c t h _ _)) (fun t h j => (by rw [idx_eq j]; exact weight_next m c t h _ _)) (le_of_eq N_0) t0_15 rfl j).trans ?_
  rw [zero_add]
  exact Fin.sum_mul_add_congr fun s k hl => rfl

/-- What the two bit patterns of the precondition's bounds denote. -/
theorem ofBits_inf : Ideal.ofBits .f32 0x7F800000#32 = ⊤ ∧ Ideal.ofBits .f32 0xFF800000#32 = ⊥ := by
  simp [Ideal.ofBits, Ideal.ieee]

/-- The precondition: the entries of the gradient that arrives are real numbers. -/
theorem real_of_pre (X : FVec Ideal Cert.Pre_finite34.S8192x6912 .bf16) (W : FVec Ideal Cert.Pre_finite34.S16x1536 .f32)
    (D : FVec Ideal Cert.Pre_finite34.S8192x1536 .f32) (DP : FVec Ideal Cert.Pre_finite34.S8192x6912 .bf16)
    (h : Cert.Pre_finite34.fn (F := Ideal) X W D DP = fun _ => 1#1) : ∀ i, Finite.IsReal (D i) := by
  have e := congrFun h (fun a => a.elim0)
  simp only [Cert.Pre_finite34.fn, andi] at e
  have : Subsingleton Cert.Pre_finite34.S_.Idx := ⟨fun a b => funext fun x => x.elim0⟩
  intro i
  have := Host.reduce_andi_all _ _ _ _ _ e i
  exact Finite.isReal_of_cmp (by rw [← ofBits_inf.1, ← ofBits_inf.2]; exact this)

set_option maxHeartbeats 1600000 in
/-- After the run `dproj` is the reference's. -/
theorem final_input (c : Dev nD) (hD : ∀ i, Finite.IsReal ((m ((c : Thread nD τ).loc main_arg2) : FVec Ideal S8192x1536 .f32) i)) :
    (dats m 0 c).arrAt 6 (cfgs 0).N = val_main_v87 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_coversWhere_of_agree 6 _ (fun β => β 1 = 1) (by decide +kernel) (fun t hf y => ?_) (fun j hj => ?_)
  · blk_simp
    rw [after0_6]
    have block : ∀ z : S512x1536.Idx, z = ix2 (z 0) (z 1) := fun z => by
      funext a
      fin_cases a <;> rfl
    have e : ((View.whole main_v0_0).slice (win0_6.rect t)).emb y
        = (ix2 ⟨t.val * 512 + ((win0 6).xinj (grid0.coords t) y 0).val, row_lt t ((win0 6).xinj (grid0.coords t) y 0)⟩
            ⟨1536 + ((win0 6).xinj (grid0.coords t) y 1).val, col_lt ((win0 6).xinj (grid0.coords t) y 1)⟩ : S8192x6912.Idx) := by
      blk_ext! [idx t]
    rw [e]
    by_cases h0 : t.val % 16 = 0
    · rw [outsAt0_A m c t h0]
      frame_out
      exact (congrArg _ (block _)).trans (sum_at m c t _ _ _ rfl _ _ _ rfl rfl (by pointwise []) hD _)
    · rw [outsAt0_B m c t h0]
      frame_out
      exact (congrArg _ (block _)).trans (sum_at m c t _ _ _ rfl _ _ _ rfl rfl (by pointwise []) hD _)
  · idx_vars j
    blk_simp [Pipeline.Window.cell_apply] at hj
    refine Eq.trans ?_ (ref_rest _ _ _ _ _ _ ?_).symm
    · rfl
    · omega

end Cert.Kernel34Ideal.ConvGrad
-- ==== Proof.lean ====
/-
  The claim: the frames of every call, and that each call's results are its reference's. The runs are the generated ones; what
  each output array holds is proved in the module named after the call.
-/
module

public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite12
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel14
public import proofs.«01_k».proof.Proof.Gen.Kernel14Ideal
public import proofs.«01_k».proof.Proof.Gen.Reference14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Reference15Ideal
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Reference16Ideal
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Reference17Ideal
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Reference18Ideal
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Reference19Ideal
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel22
public import proofs.«01_k».proof.Proof.Gen.Kernel22Ideal
public import proofs.«01_k».proof.Proof.Gen.Reference22Ideal
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Reference23Ideal
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Reference24Ideal
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Reference25Ideal
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Reference26Ideal
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Reference27Ideal
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Reference28Ideal
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Reference29Ideal
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30
public import proofs.«01_k».proof.Proof.Gen.Kernel30Ideal
public import proofs.«01_k».proof.Proof.Gen.Reference30Ideal
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31
public import proofs.«01_k».proof.Proof.Gen.Kernel31Ideal
public import proofs.«01_k».proof.Proof.Gen.Reference31Ideal
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32
public import proofs.«01_k».proof.Proof.Gen.Kernel32Ideal
public import proofs.«01_k».proof.Proof.Gen.Reference32Ideal
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33
public import proofs.«01_k».proof.Proof.Gen.Kernel33Ideal
public import proofs.«01_k».proof.Proof.Gen.Reference33Ideal
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Pre_finite34
public import proofs.«01_k».proof.Proof.Gen.Kernel34
public import proofs.«01_k».proof.Proof.Gen.Kernel34Ideal
public import proofs.«01_k».proof.Proof.Gen.Reference34Ideal
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.MergeRows
public import proofs.«01_k».proof.Proof.MergeGate
public import proofs.«01_k».proof.Proof.MergeWeight
public import proofs.«01_k».proof.Proof.InProjWeight
public import proofs.«01_k».proof.Proof.InProjInput
public import proofs.«01_k».proof.Proof.GateUpWeight
public import proofs.«01_k».proof.Proof.GateInput
public import proofs.«01_k».proof.Proof.UpInput
public import proofs.«01_k».proof.Proof.DownWeight
public import proofs.«01_k».proof.Proof.OutProjInput
public import proofs.«01_k».proof.Proof.OutProjWeight
public import proofs.«01_k».proof.Proof.NormGrad
public import proofs.«01_k».proof.Proof.SwiGluGrad
public import proofs.«01_k».proof.Proof.InProjForward
public import proofs.«01_k».proof.Proof.GateUpForward
public import proofs.«01_k».proof.Proof.DownForward
public import proofs.«01_k».proof.Proof.OutProjForward
public import proofs.«01_k».proof.Proof.MergeForward
public import proofs.«01_k».proof.Proof.NormForward
public import proofs.«01_k».proof.Proof.LossHead
public import proofs.«01_k».proof.Proof.AdamInput
public import proofs.«01_k».proof.Proof.AdamGateUp
public import proofs.«01_k».proof.Proof.AdamDown
public import proofs.«01_k».proof.Proof.AdamOut
public import proofs.«01_k».proof.Proof.AdamBranch
public import proofs.«01_k».proof.Proof.AdamConv
public import proofs.«01_k».proof.Proof.AdamReplicated
public import proofs.«01_k».proof.Proof.ConvForward
public import proofs.«01_k».proof.Proof.GatesForward
public import proofs.«01_k».proof.Proof.GatesWeight
public import proofs.«01_k».proof.Proof.GatesInput
public import proofs.«01_k».proof.Proof.ConvGrad
public import Idealize.ShloMosaic.Lib.Claim

@[expose] public section

noncomputable section

set_option maxRecDepth 16384

namespace Cert.Proof

open Idealize.ShloMosaic Idealize.SL.Sem

/-- The merge gradient and the derivative of the merge's forward lines end with equal results. -/
theorem merge_algebraic : Cert.algebraic_KernelIdeal_ReferenceIdeal := by
  pair_intro
  · run_from Cert.KernelIdeal.Value.run_blocks m g
  · run_from Cert.ReferenceIdeal.Value.run m' g'
    · refine Eq.trans (?_ : Cert.ReferenceIdeal.Read.val_main_v50 (F := Ideal) _ _ _ _ _ _ _ = _) (Cert.KernelIdeal.Merge.final6 m c).symm
      obtain ⟨_, _, _, _, h4, h5, h6⟩ := hagree c
      congr 1
    · exact (Cert.KernelIdeal.Merge.final7 m c).symm
    · exact (Cert.KernelIdeal.Merge.final8 m c).symm
    · exact (Cert.KernelIdeal.Merge.final9 m c).symm
    · exact (Cert.KernelIdeal.Merge.final10 m c).symm

/-- The input projection's weight gradient and the derivative of its forward line end with equal results. -/
theorem algebraic2 : Cert.algebraic_Kernel2Ideal_Reference2Ideal := by
  pair_intro
  · run_from Cert.Kernel2Ideal.Value.run_blocks m g
  · run_from Cert.Reference2Ideal.Value.run m' g'
    exact (Cert.Kernel2Ideal.InProjWeight.final m c).symm

/-- The reference's run leaves its arguments unchanged. -/
theorem frame2 : Cert.quiescent_Reference2Ideal := fun m ρ _ => (θ_run Cert.Reference2Ideal.defs _ _).mono
  (fun r h => ⟨fun c => (h c).2, sem_eq_zero_of_no_sems (by decide) r.2⟩) (Cert.Reference2Ideal.Value.run m ρ)

/-- The input projection's input gradient and the derivative of its forward line end with equal results. -/
theorem algebraic3 : Cert.algebraic_Kernel3Ideal_Reference3Ideal := by
  pair_intro
  · run_from Cert.Kernel3Ideal.Value.run_blocks m g
  · run_from Cert.Reference3Ideal.Value.run m' g'
    exact (Cert.Kernel3Ideal.InProjInput.final m c).symm

/-- The reference's run leaves its arguments unchanged. -/
theorem frame3 : Cert.quiescent_Reference3Ideal := fun m ρ _ => (θ_run Cert.Reference3Ideal.defs _ _).mono
  (fun r h => ⟨fun c => (h c).2, sem_eq_zero_of_no_sems (by decide) r.2⟩) (Cert.Reference3Ideal.Value.run m ρ)

/-- The weight gradient of a half of the SwiGLU input product and the derivative of its forward line end with equal results. -/
theorem algebraic4 : Cert.algebraic_Kernel4Ideal_Reference4Ideal := by
  pair_intro
  · run_from Cert.Kernel4Ideal.Value.run_blocks m g
  · run_from Cert.Reference4Ideal.Value.run m' g'
    exact (Cert.Kernel4Ideal.GateUpWeight.final m c).symm

/-- The reference's run leaves its arguments unchanged. -/
theorem frame4 : Cert.quiescent_Reference4Ideal := fun m ρ _ => (θ_run Cert.Reference4Ideal.defs _ _).mono
  (fun r h => ⟨fun c => (h c).2, sem_eq_zero_of_no_sems (by decide) r.2⟩) (Cert.Reference4Ideal.Value.run m ρ)

/-- The input gradient of the SwiGLU input product's gate half and the derivative of its forward line end with equal results. -/
theorem algebraic5 : Cert.algebraic_Kernel5Ideal_Reference5Ideal := by
  pair_intro
  · run_from Cert.Kernel5Ideal.Value.run_blocks m g
  · run_from Cert.Reference5Ideal.Value.run m' g'
    exact (Cert.Kernel5Ideal.GateInput.final m c).symm

/-- The reference's run leaves its arguments unchanged. -/
theorem frame5 : Cert.quiescent_Reference5Ideal := fun m ρ _ => (θ_run Cert.Reference5Ideal.defs _ _).mono
  (fun r h => ⟨fun c => (h c).2, sem_eq_zero_of_no_sems (by decide) r.2⟩) (Cert.Reference5Ideal.Value.run m ρ)

/-- The input gradient of the SwiGLU input product, both halves and the derivative of its forward line end with equal results. -/
theorem algebraic6 : Cert.algebraic_Kernel6Ideal_Reference6Ideal := by
  pair_intro
  · run_from Cert.Kernel6Ideal.Value.run_blocks m g
  · run_from Cert.Reference6Ideal.Value.run m' g'
    exact (Cert.Kernel6Ideal.UpInput.final m c).symm

/-- The reference's run leaves its arguments unchanged. -/
theorem frame6 : Cert.quiescent_Reference6Ideal := fun m ρ _ => (θ_run Cert.Reference6Ideal.defs _ _).mono
  (fun r h => ⟨fun c => (h c).2, sem_eq_zero_of_no_sems (by decide) r.2⟩) (Cert.Reference6Ideal.Value.run m ρ)

/-- The weight gradient of the SwiGLU output product and the derivative of its forward line end with equal results. -/
theorem algebraic7 : Cert.algebraic_Kernel7Ideal_Reference7Ideal := by
  pair_intro
  · run_from Cert.Kernel7Ideal.Value.run_blocks m g
  · run_from Cert.Reference7Ideal.Value.run m' g'
    exact (Cert.Kernel7Ideal.DownWeight.final m c).symm

/-- The reference's run leaves its arguments unchanged. -/
theorem frame7 : Cert.quiescent_Reference7Ideal := fun m ρ _ => (θ_run Cert.Reference7Ideal.defs _ _).mono
  (fun r h => ⟨fun c => (h c).2, sem_eq_zero_of_no_sems (by decide) r.2⟩) (Cert.Reference7Ideal.Value.run m ρ)

/-- The output projection's input gradient and the derivative of its forward line end with equal results. -/
theorem algebraic8 : Cert.algebraic_Kernel8Ideal_Reference8Ideal := by
  pair_intro
  · run_from Cert.Kernel8Ideal.Value.run_blocks m g
  · run_from Cert.Reference8Ideal.Value.run m' g'
    exact (Cert.Kernel8Ideal.OutProjInput.final m c).symm

/-- The reference's run leaves its arguments unchanged. -/
theorem frame8 : Cert.quiescent_Reference8Ideal := fun m ρ _ => (θ_run Cert.Reference8Ideal.defs _ _).mono
  (fun r h => ⟨fun c => (h c).2, sem_eq_zero_of_no_sems (by decide) r.2⟩) (Cert.Reference8Ideal.Value.run m ρ)

/-- The output projection's weight gradient and the derivative of its forward line end with equal results. -/
theorem algebraic9 : Cert.algebraic_Kernel9Ideal_Reference9Ideal := by
  pair_intro
  · run_from Cert.Kernel9Ideal.Value.run_blocks m g
  · run_from Cert.Reference9Ideal.Value.run m' g'
    exact (Cert.Kernel9Ideal.OutProjWeight.final m c).symm

/-- The reference's run leaves its arguments unchanged. -/
theorem frame9 : Cert.quiescent_Reference9Ideal := fun m ρ _ => (θ_run Cert.Reference9Ideal.defs _ _).mono
  (fun r h => ⟨fun c => (h c).2, sem_eq_zero_of_no_sems (by decide) r.2⟩) (Cert.Reference9Ideal.Value.run m ρ)

/-- The norm's gradient and the reference's end with equal results. -/
theorem algebraic10 : Cert.algebraic_Kernel10Ideal_Reference10Ideal := by
  pair_intro
  · run_from Cert.Kernel10Ideal.Value.run_blocks m g
  · run_from Cert.Reference10Ideal.Value.run m' g'
    · refine (Cert.Reference10Ideal.Read.val_main_v43_eq m' c).trans (Eq.trans ?_ (Cert.Kernel10Ideal.NormGrad.final_input m c).symm)
      obtain ⟨h0, h1, h2, h3⟩ := hagree c
      congr 1
    · exact (Cert.Kernel10Ideal.NormGrad.final_scale m c).symm

/-- The reference's run leaves its arguments unchanged. -/
theorem frame10 : Cert.quiescent_Reference10Ideal := fun m ρ _ => (θ_run Cert.Reference10Ideal.defs _ _).mono
  (fun r h => ⟨fun c => (h c).2.2, sem_eq_zero_of_no_sems (by decide) r.2⟩) (Cert.Reference10Ideal.Value.run m ρ)

/-- The gradient of the SwiGLU's gate and up halves and the reference's end with equal results. -/
theorem algebraic12 : Cert.algebraic_Kernel12Ideal_Reference12Ideal_pre_finite12 := by
  pair_intro
  · run_from Cert.Kernel12Ideal.Value.run_blocks m g
  · run_from Cert.Reference12Ideal.Value.run m' g'
    · exact (Cert.Kernel12Ideal.SwiGluGrad.final_gate m c (hpre c)).symm
    · exact (Cert.Kernel12Ideal.SwiGluGrad.final_up m c).symm

/-- The reference's run leaves its arguments unchanged. -/
theorem frame12 : Cert.quiescent_Reference12Ideal := fun m ρ _ => (θ_run Cert.Reference12Ideal.defs _ _).mono
  (fun r h => ⟨fun c => (h c).2.2, sem_eq_zero_of_no_sems (by decide) r.2⟩) (Cert.Reference12Ideal.Value.run m ρ)

/-- The input projection and the reference's end with equal results. -/
theorem algebraic14 : Cert.algebraic_Kernel14Ideal_Reference14Ideal := by
  pair_intro
  · run_from Cert.Kernel14Ideal.Value.run_blocks m g
  · run_from Cert.Reference14Ideal.Value.run m' g'
    exact (Cert.Kernel14Ideal.InProjForward.final m c).symm

/-- The reference's run leaves its arguments unchanged. -/
theorem frame14 : Cert.quiescent_Reference14Ideal := fun m ρ _ => (θ_run Cert.Reference14Ideal.defs _ _).mono
  (fun r h => ⟨fun c => (h c).2, sem_eq_zero_of_no_sems (by decide) r.2⟩) (Cert.Reference14Ideal.Value.run m ρ)

/-- The SwiGLU's input product and its activation and the reference's end with equal results. -/
theorem algebraic15 : Cert.algebraic_Kernel15Ideal_Reference15Ideal := by
  pair_intro
  · run_from Cert.Kernel15Ideal.Value.run_blocks m g
  · run_from Cert.Reference15Ideal.Value.run m' g'
    · exact (Cert.Kernel15Ideal.GateUpForward.final_gate m c).symm
    · exact (Cert.Kernel15Ideal.GateUpForward.final_up m c).symm
    · exact (Cert.Kernel15Ideal.GateUpForward.final_act m c).symm

/-- The reference's run leaves its arguments unchanged. -/
theorem frame15 : Cert.quiescent_Reference15Ideal := fun m ρ _ => (θ_run Cert.Reference15Ideal.defs _ _).mono
  (fun r h => ⟨fun c => (h c).2.2.2, sem_eq_zero_of_no_sems (by decide) r.2⟩) (Cert.Reference15Ideal.Value.run m ρ)

/-- The SwiGLU's output product and the reference's end with equal results. -/
theorem algebraic16 : Cert.algebraic_Kernel16Ideal_Reference16Ideal := by
  pair_intro
  · run_from Cert.Kernel16Ideal.Value.run_blocks m g
  · run_from Cert.Reference16Ideal.Value.run m' g'
    exact (Cert.Kernel16Ideal.DownForward.final m c).symm

/-- The reference's run leaves its arguments unchanged. -/
theorem frame16 : Cert.quiescent_Reference16Ideal := fun m ρ _ => (θ_run Cert.Reference16Ideal.defs _ _).mono
  (fun r h => ⟨fun c => (h c).2, sem_eq_zero_of_no_sems (by decide) r.2⟩) (Cert.Reference16Ideal.Value.run m ρ)

/-- The output projection and the reference's end with equal results. -/
theorem algebraic17 : Cert.algebraic_Kernel17Ideal_Reference17Ideal := by
  pair_intro
  · run_from Cert.Kernel17Ideal.Value.run_blocks m g
  · run_from Cert.Reference17Ideal.Value.run m' g'
    exact (Cert.Kernel17Ideal.OutProjForward.final m c).symm

/-- The reference's run leaves its arguments unchanged. -/
theorem frame17 : Cert.quiescent_Reference17Ideal := fun m ρ _ => (θ_run Cert.Reference17Ideal.defs _ _).mono
  (fun r h => ⟨fun c => (h c).2, sem_eq_zero_of_no_sems (by decide) r.2⟩) (Cert.Reference17Ideal.Value.run m ρ)

/-- The merge of the branches and the reference's end with equal results. -/
theorem algebraic18 : Cert.algebraic_Kernel18Ideal_Reference18Ideal := by
  pair_intro
  · run_from Cert.Kernel18Ideal.Value.run_blocks m g
  · run_from Cert.Reference18Ideal.Value.run m' g'
    exact (Cert.Kernel18Ideal.MergeForward.final m c).symm

/-- The reference's run leaves its arguments unchanged. -/
theorem frame18 : Cert.quiescent_Reference18Ideal := fun m ρ _ => (θ_run Cert.Reference18Ideal.defs _ _).mono
  (fun r h => ⟨fun c => (h c).2, sem_eq_zero_of_no_sems (by decide) r.2⟩) (Cert.Reference18Ideal.Value.run m ρ)

/-- The RMS norm and the reference's end with equal results. -/
theorem algebraic19 : Cert.algebraic_Kernel19Ideal_Reference19Ideal := by
  pair_intro
  · run_from Cert.Kernel19Ideal.Value.run_blocks m g
  · run_from Cert.Reference19Ideal.Value.run m' g'
    exact (Cert.Kernel19Ideal.NormForward.final m c).symm

/-- The reference's run leaves its arguments unchanged. -/
theorem frame19 : Cert.quiescent_Reference19Ideal := fun m ρ _ => (θ_run Cert.Reference19Ideal.defs _ _).mono
  (fun r h => ⟨fun c => (h c).2, sem_eq_zero_of_no_sems (by decide) r.2⟩) (Cert.Reference19Ideal.Value.run m ρ)

set_option maxHeartbeats 1600000 in
/-- The loss and its gradient and the reference's end with equal results. -/
theorem algebraic22 : Cert.algebraic_Kernel22Ideal_Reference22Ideal := by
  pair_intro
  · run_from Cert.Kernel22Ideal.Value.run_blocks m g
  · run_from Cert.Reference22Ideal.Value.run m' g'
    · refine (Cert.Reference22Ideal.Read.val_main_v55_eq m' c).trans (Eq.trans ?_ (Cert.Kernel22Ideal.LossHead.final_input m c).symm)
      obtain ⟨h0, h1, h2⟩ := hagree c
      congr 1
    · exact (Cert.Kernel22Ideal.LossHead.final_scale m c).symm
    · exact (Cert.Kernel22Ideal.LossHead.final_loss m c).symm

/-- The reference's run leaves its arguments unchanged. -/
theorem frame22 : Cert.quiescent_Reference22Ideal := fun m ρ _ => (θ_run Cert.Reference22Ideal.defs _ _).mono
  (fun r h => ⟨fun c => (h c).2.2.2, sem_eq_zero_of_no_sems (by decide) r.2⟩) (Cert.Reference22Ideal.Value.run m ρ)

set_option maxHeartbeats 1600000 in
/-- The Adam step of `w_in` and the reference's end with equal results. -/
theorem algebraic23 : Cert.algebraic_Kernel23Ideal_Reference23Ideal := by
  pair_intro
  · run_from Cert.Kernel23Ideal.Value.run_blocks m g
  · run_from Cert.Reference23Ideal.Value.run m' g'
    · refine (Cert.Reference23Ideal.Read.val_main_v4_eq _ _).trans (Eq.trans ?_ (Cert.Kernel23Ideal.AdamInput.final_grad m c).symm)
      obtain ⟨h0, h1, h2, h3, h4⟩ := hagree c
      congr 1
    · refine (Cert.Reference23Ideal.Read.val_main_v28_eq _ _ _ _ _).trans (Eq.trans ?_ (Cert.Kernel23Ideal.AdamInput.final_delta m c).symm)
      obtain ⟨h0, h1, h2, h3, h4⟩ := hagree c
      congr 1
    · refine (Cert.Reference23Ideal.Read.val_main_v9_eq _ _ _).trans (Eq.trans ?_ (Cert.Kernel23Ideal.AdamInput.final_m m c).symm)
      obtain ⟨h0, h1, h2, h3, h4⟩ := hagree c
      congr 1
    · refine (Cert.Reference23Ideal.Read.val_main_v15_eq _ _ _).trans (Eq.trans ?_ (Cert.Kernel23Ideal.AdamInput.final_v m c).symm)
      obtain ⟨h0, h1, h2, h3, h4⟩ := hagree c
      congr 1

/-- The reference's run leaves its arguments unchanged. -/
theorem frame23 : Cert.quiescent_Reference23Ideal := fun m ρ _ => (θ_run Cert.Reference23Ideal.defs _ _).mono
  (fun r h => ⟨fun c => (h c).2.2.2.2, sem_eq_zero_of_no_sems (by decide) r.2⟩) (Cert.Reference23Ideal.Value.run m ρ)

set_option maxHeartbeats 1600000 in
/-- The Adam step of `w_gate_up` and the reference's end with equal results. -/
theorem algebraic24 : Cert.algebraic_Kernel24Ideal_Reference24Ideal := by
  pair_intro
  · run_from Cert.Kernel24Ideal.Value.run_blocks m g
  · run_from Cert.Reference24Ideal.Value.run m' g'
    · refine (Cert.Reference24Ideal.Read.val_main_v4_eq _ _).trans (Eq.trans ?_ (Cert.Kernel24Ideal.AdamGateUp.final_grad m c).symm)
      obtain ⟨h0, h1, h2, h3, h4⟩ := hagree c
      congr 1
    · refine (Cert.Reference24Ideal.Read.val_main_v28_eq _ _ _ _ _).trans (Eq.trans ?_ (Cert.Kernel24Ideal.AdamGateUp.final_delta m c).symm)
      obtain ⟨h0, h1, h2, h3, h4⟩ := hagree c
      congr 1
    · refine (Cert.Reference24Ideal.Read.val_main_v9_eq _ _ _).trans (Eq.trans ?_ (Cert.Kernel24Ideal.AdamGateUp.final_m m c).symm)
      obtain ⟨h0, h1, h2, h3, h4⟩ := hagree c
      congr 1
    · refine (Cert.Reference24Ideal.Read.val_main_v15_eq _ _ _).trans (Eq.trans ?_ (Cert.Kernel24Ideal.AdamGateUp.final_v m c).symm)
      obtain ⟨h0, h1, h2, h3, h4⟩ := hagree c
      congr 1

/-- The reference's run leaves its arguments unchanged. -/
theorem frame24 : Cert.quiescent_Reference24Ideal := fun m ρ _ => (θ_run Cert.Reference24Ideal.defs _ _).mono
  (fun r h => ⟨fun c => (h c).2.2.2.2, sem_eq_zero_of_no_sems (by decide) r.2⟩) (Cert.Reference24Ideal.Value.run m ρ)

set_option maxHeartbeats 1600000 in
/-- The Adam step of `w_down` and the reference's end with equal results. -/
theorem algebraic25 : Cert.algebraic_Kernel25Ideal_Reference25Ideal := by
  pair_intro
  · run_from Cert.Kernel25Ideal.Value.run_blocks m g
  · run_from Cert.Reference25Ideal.Value.run m' g'
    · refine (Cert.Reference25Ideal.Read.val_main_v4_eq _ _).trans (Eq.trans ?_ (Cert.Kernel25Ideal.AdamDown.final_grad m c).symm)
      obtain ⟨h0, h1, h2, h3, h4⟩ := hagree c
      congr 1
    · refine (Cert.Reference25Ideal.Read.val_main_v28_eq _ _ _ _ _).trans (Eq.trans ?_ (Cert.Kernel25Ideal.AdamDown.final_delta m c).symm)
      obtain ⟨h0, h1, h2, h3, h4⟩ := hagree c
      congr 1
    · refine (Cert.Reference25Ideal.Read.val_main_v9_eq _ _ _).trans (Eq.trans ?_ (Cert.Kernel25Ideal.AdamDown.final_m m c).symm)
      obtain ⟨h0, h1, h2, h3, h4⟩ := hagree c
      congr 1
    · refine (Cert.Reference25Ideal.Read.val_main_v15_eq _ _ _).trans (Eq.trans ?_ (Cert.Kernel25Ideal.AdamDown.final_v m c).symm)
      obtain ⟨h0, h1, h2, h3, h4⟩ := hagree c
      congr 1

/-- The reference's run leaves its arguments unchanged. -/
theorem frame25 : Cert.quiescent_Reference25Ideal := fun m ρ _ => (θ_run Cert.Reference25Ideal.defs _ _).mono
  (fun r h => ⟨fun c => (h c).2.2.2.2, sem_eq_zero_of_no_sems (by decide) r.2⟩) (Cert.Reference25Ideal.Value.run m ρ)

set_option maxHeartbeats 1600000 in
/-- The Adam step of `w_out` and the reference's end with equal results. -/
theorem algebraic26 : Cert.algebraic_Kernel26Ideal_Reference26Ideal := by
  pair_intro
  · run_from Cert.Kernel26Ideal.Value.run_blocks m g
  · run_from Cert.Reference26Ideal.Value.run m' g'
    · refine (Cert.Reference26Ideal.Read.val_main_v4_eq _ _).trans (Eq.trans ?_ (Cert.Kernel26Ideal.AdamOut.final_grad m c).symm)
      obtain ⟨h0, h1, h2, h3, h4⟩ := hagree c
      congr 1
    · refine (Cert.Reference26Ideal.Read.val_main_v28_eq _ _ _ _ _).trans (Eq.trans ?_ (Cert.Kernel26Ideal.AdamOut.final_delta m c).symm)
      obtain ⟨h0, h1, h2, h3, h4⟩ := hagree c
      congr 1
    · refine (Cert.Reference26Ideal.Read.val_main_v9_eq _ _ _).trans (Eq.trans ?_ (Cert.Kernel26Ideal.AdamOut.final_m m c).symm)
      obtain ⟨h0, h1, h2, h3, h4⟩ := hagree c
      congr 1
    · refine (Cert.Reference26Ideal.Read.val_main_v15_eq _ _ _).trans (Eq.trans ?_ (Cert.Kernel26Ideal.AdamOut.final_v m c).symm)
      obtain ⟨h0, h1, h2, h3, h4⟩ := hagree c
      congr 1

/-- The reference's run leaves its arguments unchanged. -/
theorem frame26 : Cert.quiescent_Reference26Ideal := fun m ρ _ => (θ_run Cert.Reference26Ideal.defs _ _).mono
  (fun r h => ⟨fun c => (h c).2.2.2.2, sem_eq_zero_of_no_sems (by decide) r.2⟩) (Cert.Reference26Ideal.Value.run m ρ)

set_option maxHeartbeats 1600000 in
/-- The Adam step of `w_branch` and the reference's end with equal results. -/
theorem algebraic27 : Cert.algebraic_Kernel27Ideal_Reference27Ideal := by
  pair_intro
  · run_from Cert.Kernel27Ideal.Value.run_blocks m g
  · run_from Cert.Reference27Ideal.Value.run m' g'
    · refine (Cert.Reference27Ideal.Read.val_main_v4_eq _ _).trans (Eq.trans ?_ (Cert.Kernel27Ideal.AdamBranch.final_grad m c).symm)
      obtain ⟨h0, h1, h2, h3, h4⟩ := hagree c
      congr 1
    · refine (Cert.Reference27Ideal.Read.val_main_v28_eq _ _ _ _ _).trans (Eq.trans ?_ (Cert.Kernel27Ideal.AdamBranch.final_delta m c).symm)
      obtain ⟨h0, h1, h2, h3, h4⟩ := hagree c
      congr 1
    · refine (Cert.Reference27Ideal.Read.val_main_v9_eq _ _ _).trans (Eq.trans ?_ (Cert.Kernel27Ideal.AdamBranch.final_m m c).symm)
      obtain ⟨h0, h1, h2, h3, h4⟩ := hagree c
      congr 1
    · refine (Cert.Reference27Ideal.Read.val_main_v15_eq _ _ _).trans (Eq.trans ?_ (Cert.Kernel27Ideal.AdamBranch.final_v m c).symm)
      obtain ⟨h0, h1, h2, h3, h4⟩ := hagree c
      congr 1

/-- The reference's run leaves its arguments unchanged. -/
theorem frame27 : Cert.quiescent_Reference27Ideal := fun m ρ _ => (θ_run Cert.Reference27Ideal.defs _ _).mono
  (fun r h => ⟨fun c => (h c).2.2.2.2, sem_eq_zero_of_no_sems (by decide) r.2⟩) (Cert.Reference27Ideal.Value.run m ρ)

set_option maxHeartbeats 1600000 in
/-- The Adam step of `dn_conv_w` and the reference's end with equal results. -/
theorem algebraic28 : Cert.algebraic_Kernel28Ideal_Reference28Ideal := by
  pair_intro
  · run_from Cert.Kernel28Ideal.Value.run_blocks m g
  · run_from Cert.Reference28Ideal.Value.run m' g'
    · refine (Cert.Reference28Ideal.Read.val_main_v0_eq _).trans (Eq.trans ?_ (Cert.Kernel28Ideal.AdamConv.final_grad m c).symm)
      obtain ⟨h0, h1, h2, h3⟩ := hagree c
      congr 1
    · refine (Cert.Reference28Ideal.Read.val_main_v24_eq _ _ _ _).trans (Eq.trans ?_ (Cert.Kernel28Ideal.AdamConv.final_delta m c).symm)
      obtain ⟨h0, h1, h2, h3⟩ := hagree c
      congr 1
    · refine (Cert.Reference28Ideal.Read.val_main_v5_eq _ _).trans (Eq.trans ?_ (Cert.Kernel28Ideal.AdamConv.final_m m c).symm)
      obtain ⟨h0, h1, h2, h3⟩ := hagree c
      congr 1
    · refine (Cert.Reference28Ideal.Read.val_main_v11_eq _ _).trans (Eq.trans ?_ (Cert.Kernel28Ideal.AdamConv.final_v m c).symm)
      obtain ⟨h0, h1, h2, h3⟩ := hagree c
      congr 1

/-- The reference's run leaves its arguments unchanged. -/
theorem frame28 : Cert.quiescent_Reference28Ideal := fun m ρ _ => (θ_run Cert.Reference28Ideal.defs _ _).mono
  (fun r h => ⟨fun c => (h c).2.2.2.2, sem_eq_zero_of_no_sems (by decide) r.2⟩) (Cert.Reference28Ideal.Value.run m ρ)

set_option maxHeartbeats 1600000 in
/-- The Adam step of the replicated parameters and the reference's end with equal results. -/
theorem algebraic29 : Cert.algebraic_Kernel29Ideal_Reference29Ideal := by
  pair_intro
  · run_from Cert.Kernel29Ideal.Value.run_blocks m g
  · run_from Cert.Reference29Ideal.Value.run m' g'
    · refine (Cert.Reference29Ideal.Read.val_main_v0_eq _).trans (Eq.trans ?_ (Cert.Kernel29Ideal.AdamReplicated.final_grad m c).symm)
      obtain ⟨h0, h1, h2, h3⟩ := hagree c
      congr 1
    · refine (Cert.Reference29Ideal.Read.val_main_v24_eq _ _ _ _).trans (Eq.trans ?_ (Cert.Kernel29Ideal.AdamReplicated.final_delta m c).symm)
      obtain ⟨h0, h1, h2, h3⟩ := hagree c
      congr 1
    · refine (Cert.Reference29Ideal.Read.val_main_v5_eq _ _).trans (Eq.trans ?_ (Cert.Kernel29Ideal.AdamReplicated.final_m m c).symm)
      obtain ⟨h0, h1, h2, h3⟩ := hagree c
      congr 1
    · refine (Cert.Reference29Ideal.Read.val_main_v11_eq _ _).trans (Eq.trans ?_ (Cert.Kernel29Ideal.AdamReplicated.final_v m c).symm)
      obtain ⟨h0, h1, h2, h3⟩ := hagree c
      congr 1

/-- The reference's run leaves its arguments unchanged. -/
theorem frame29 : Cert.quiescent_Reference29Ideal := fun m ρ _ => (θ_run Cert.Reference29Ideal.defs _ _).mono
  (fun r h => ⟨fun c => (h c).2.2.2.2, sem_eq_zero_of_no_sems (by decide) r.2⟩) (Cert.Reference29Ideal.Value.run m ρ)

set_option maxHeartbeats 1600000 in
/-- The short convolution and its activation and the reference's end with equal results. -/
theorem algebraic30 : Cert.algebraic_Kernel30Ideal_Reference30Ideal := by
  pair_intro
  · run_from Cert.Kernel30Ideal.Value.run_blocks m g
  · run_from Cert.Reference30Ideal.Value.run m' g'
    refine (Cert.Reference30Ideal.Read.val_main_v33_eq m' c).trans (Eq.trans ?_ (Cert.Kernel30Ideal.ConvForward.final m c).symm)
    obtain ⟨h0, h1⟩ := hagree c
    congr 1

/-- The reference's run leaves its arguments unchanged. -/
theorem frame30 : Cert.quiescent_Reference30Ideal := fun m ρ _ => (θ_run Cert.Reference30Ideal.defs _ _).mono
  (fun r h => ⟨fun c => (h c).2, sem_eq_zero_of_no_sems (by decide) r.2⟩) (Cert.Reference30Ideal.Value.run m ρ)

set_option maxHeartbeats 1600000 in
/-- The product that makes the delta rule's gates and the reference's end with equal results. -/
theorem algebraic31 : Cert.algebraic_Kernel31Ideal_Reference31Ideal := by
  pair_intro
  · run_from Cert.Kernel31Ideal.Value.run_blocks m g
  · run_from Cert.Reference31Ideal.Value.run m' g'
    exact (Cert.Kernel31Ideal.GatesForward.final m c).symm

/-- The reference's run leaves its arguments unchanged. -/
theorem frame31 : Cert.quiescent_Reference31Ideal := fun m ρ _ => (θ_run Cert.Reference31Ideal.defs _ _).mono
  (fun r h => ⟨fun c => (h c).2, sem_eq_zero_of_no_sems (by decide) r.2⟩) (Cert.Reference31Ideal.Value.run m ρ)

set_option maxHeartbeats 1600000 in
/-- The weight gradient of the product that makes the delta rule's gates and the reference's end with equal results. -/
theorem algebraic32 : Cert.algebraic_Kernel32Ideal_Reference32Ideal := by
  pair_intro
  · run_from Cert.Kernel32Ideal.Value.run_blocks m g
  · run_from Cert.Reference32Ideal.Value.run m' g'
    exact (Cert.Kernel32Ideal.GatesWeight.final m c).symm

/-- The reference's run leaves its arguments unchanged. -/
theorem frame32 : Cert.quiescent_Reference32Ideal := fun m ρ _ => (θ_run Cert.Reference32Ideal.defs _ _).mono
  (fun r h => ⟨fun c => (h c).2, sem_eq_zero_of_no_sems (by decide) r.2⟩) (Cert.Reference32Ideal.Value.run m ρ)

set_option maxHeartbeats 1600000 in
/-- The input gradient of the product that makes the delta rule's gates and the reference's end with equal results. -/
theorem algebraic33 : Cert.algebraic_Kernel33Ideal_Reference33Ideal := by
  pair_intro
  · run_from Cert.Kernel33Ideal.Value.run_blocks m g
  · run_from Cert.Reference33Ideal.Value.run m' g'
    exact (Cert.Kernel33Ideal.GatesInput.final m c).symm

/-- The reference's run leaves its arguments unchanged. -/
theorem frame33 : Cert.quiescent_Reference33Ideal := fun m ρ _ => (θ_run Cert.Reference33Ideal.defs _ _).mono
  (fun r h => ⟨fun c => (h c).2, sem_eq_zero_of_no_sems (by decide) r.2⟩) (Cert.Reference33Ideal.Value.run m ρ)

/-- The gradient of the short convolution and the reference's end with equal results. -/
theorem algebraic34 : Cert.algebraic_Kernel34Ideal_Reference34Ideal_pre_finite34 := by
  pair_intro
  · run_from Cert.Kernel34Ideal.Value.run_blocks m g
  · run_from Cert.Reference34Ideal.Value.run m' g'
    · refine (Cert.Reference34Ideal.Read.val_main_v87_eq m' c).trans (Eq.trans ?_ (Cert.Kernel34Ideal.ConvGrad.final_input m c
        (Cert.Kernel34Ideal.ConvGrad.real_of_pre _ _ _ _ (hpre c))).symm)
      obtain ⟨h0, h1, h2, h3⟩ := hagree c
      congr 1
    · refine (Cert.Reference34Ideal.Read.val_main_v88_eq m' c).trans (Eq.trans ?_ (Cert.Kernel34Ideal.ConvGrad.final_weight m c
        (Cert.Kernel34Ideal.ConvGrad.real_of_pre _ _ _ _ (hpre c))).symm)
      obtain ⟨h0, h1, h2, h3⟩ := hagree c
      congr 1

/-- The reference's run leaves its arguments unchanged. -/
theorem frame34 : Cert.quiescent_Reference34Ideal := fun m ρ _ => (θ_run Cert.Reference34Ideal.defs _ _).mono
  (fun r h => ⟨fun c => (h c).2.2, sem_eq_zero_of_no_sems (by decide) r.2⟩) (Cert.Reference34Ideal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel12.Gen.facts, Cert.Kernel12Ideal.Gen.facts,
  Cert.Reference12Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel22.Gen.facts, Cert.Kernel22Ideal.Gen.facts,
  Cert.Reference22Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, Cert.Kernel28.Gen.facts, Cert.Kernel28Ideal.Gen.facts,
  Cert.Reference28Ideal.Gen.facts, Cert.Kernel29.Gen.facts, Cert.Kernel29Ideal.Gen.facts,
  Cert.Reference29Ideal.Gen.facts, Cert.Kernel30.Gen.facts, Cert.Kernel30Ideal.Gen.facts,
  Cert.Reference30Ideal.Gen.facts, Cert.Kernel31.Gen.facts, Cert.Kernel31Ideal.Gen.facts,
  Cert.Reference31Ideal.Gen.facts, Cert.Kernel32.Gen.facts, Cert.Kernel32Ideal.Gen.facts,
  Cert.Reference32Ideal.Gen.facts, Cert.Kernel33.Gen.facts, Cert.Kernel33Ideal.Gen.facts,
  Cert.Reference33Ideal.Gen.facts, Cert.Kernel34.Gen.facts, Cert.Kernel34Ideal.Gen.facts,
  Cert.Reference34Ideal.Gen.facts, Cert.Pre_finite12.Gen.facts, Cert.Pre_finite34.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2.2.2, sem_eq_zero_of_no_sems (by decide) r.2⟩) (Cert.ReferenceIdeal.Value.run m ρ),
  fun m ρ _ => Cert.Kernel2.Gen.frame m ρ, fun m ρ _ => Cert.Kernel2Ideal.Gen.frame m ρ, frame2,
  fun m ρ _ => Cert.Kernel3.Gen.frame m ρ, fun m ρ _ => Cert.Kernel3Ideal.Gen.frame m ρ, frame3,
  fun m ρ _ => Cert.Kernel4.Gen.frame m ρ, fun m ρ _ => Cert.Kernel4Ideal.Gen.frame m ρ, frame4,
  fun m ρ _ => Cert.Kernel5.Gen.frame m ρ, fun m ρ _ => Cert.Kernel5Ideal.Gen.frame m ρ, frame5,
  fun m ρ _ => Cert.Kernel6.Gen.frame m ρ, fun m ρ _ => Cert.Kernel6Ideal.Gen.frame m ρ, frame6,
  fun m ρ _ => Cert.Kernel7.Gen.frame m ρ, fun m ρ _ => Cert.Kernel7Ideal.Gen.frame m ρ, frame7,
  fun m ρ _ => Cert.Kernel8.Gen.frame m ρ, fun m ρ _ => Cert.Kernel8Ideal.Gen.frame m ρ, frame8,
  fun m ρ _ => Cert.Kernel9.Gen.frame m ρ, fun m ρ _ => Cert.Kernel9Ideal.Gen.frame m ρ, frame9,
  fun m ρ _ => Cert.Kernel10.Gen.frame m ρ, fun m ρ _ => Cert.Kernel10Ideal.Gen.frame m ρ, frame10,
  fun m ρ _ => Cert.Kernel12.Gen.frame m ρ, fun m ρ _ => Cert.Kernel12Ideal.Gen.frame m ρ, fun m ρ _ => Cert.Kernel12Ideal.Gen.frame m ρ,
  frame12, fun m ρ _ => frame12 m ρ trivial,
  fun m ρ _ => Cert.Kernel14.Gen.frame m ρ, fun m ρ _ => Cert.Kernel14Ideal.Gen.frame m ρ, frame14,
  fun m ρ _ => Cert.Kernel15.Gen.frame m ρ, fun m ρ _ => Cert.Kernel15Ideal.Gen.frame m ρ, frame15,
  fun m ρ _ => Cert.Kernel16.Gen.frame m ρ, fun m ρ _ => Cert.Kernel16Ideal.Gen.frame m ρ, frame16,
  fun m ρ _ => Cert.Kernel17.Gen.frame m ρ, fun m ρ _ => Cert.Kernel17Ideal.Gen.frame m ρ, frame17,
  fun m ρ _ => Cert.Kernel18.Gen.frame m ρ, fun m ρ _ => Cert.Kernel18Ideal.Gen.frame m ρ, frame18,
  fun m ρ _ => Cert.Kernel19.Gen.frame m ρ, fun m ρ _ => Cert.Kernel19Ideal.Gen.frame m ρ, frame19,
  fun m ρ _ => Cert.Kernel22.Gen.frame m ρ, fun m ρ _ => Cert.Kernel22Ideal.Gen.frame m ρ, frame22,
  fun m ρ _ => Cert.Kernel23.Gen.frame m ρ, fun m ρ _ => Cert.Kernel23Ideal.Gen.frame m ρ, frame23,
  fun m ρ _ => Cert.Kernel24.Gen.frame m ρ, fun m ρ _ => Cert.Kernel24Ideal.Gen.frame m ρ, frame24,
  fun m ρ _ => Cert.Kernel25.Gen.frame m ρ, fun m ρ _ => Cert.Kernel25Ideal.Gen.frame m ρ, frame25,
  fun m ρ _ => Cert.Kernel26.Gen.frame m ρ, fun m ρ _ => Cert.Kernel26Ideal.Gen.frame m ρ, frame26,
  fun m ρ _ => Cert.Kernel27.Gen.frame m ρ, fun m ρ _ => Cert.Kernel27Ideal.Gen.frame m ρ, frame27,
  fun m ρ _ => Cert.Kernel28.Gen.frame m ρ, fun m ρ _ => Cert.Kernel28Ideal.Gen.frame m ρ, frame28,
  fun m ρ _ => Cert.Kernel29.Gen.frame m ρ, fun m ρ _ => Cert.Kernel29Ideal.Gen.frame m ρ, frame29,
  fun m ρ _ => Cert.Kernel30.Gen.frame m ρ, fun m ρ _ => Cert.Kernel30Ideal.Gen.frame m ρ, frame30,
  fun m ρ _ => Cert.Kernel31.Gen.frame m ρ, fun m ρ _ => Cert.Kernel31Ideal.Gen.frame m ρ, frame31,
  fun m ρ _ => Cert.Kernel32.Gen.frame m ρ, fun m ρ _ => Cert.Kernel32Ideal.Gen.frame m ρ, frame32,
  fun m ρ _ => Cert.Kernel33.Gen.frame m ρ, fun m ρ _ => Cert.Kernel33Ideal.Gen.frame m ρ, frame33,
  fun m ρ _ => Cert.Kernel34.Gen.frame m ρ, fun m ρ _ => Cert.Kernel34Ideal.Gen.frame m ρ, fun m ρ _ => Cert.Kernel34Ideal.Gen.frame m ρ,
  frame34, fun m ρ _ => frame34 m ρ trivial,
  trivial, merge_algebraic, trivial, algebraic2, trivial, algebraic3, trivial, algebraic4, trivial, algebraic5, trivial, algebraic6,
  trivial, algebraic7, trivial, algebraic8, trivial, algebraic9, trivial, algebraic10, trivial, algebraic12,
  trivial, algebraic14, trivial, algebraic15, trivial, algebraic16, trivial, algebraic17, trivial, algebraic18,
  trivial, algebraic19, trivial, algebraic22, trivial, algebraic23, trivial, algebraic24, trivial, algebraic25,
  trivial, algebraic26, trivial, algebraic27, trivial, algebraic28, trivial, algebraic29, trivial, algebraic30,
  trivial, algebraic31, trivial, algebraic32, trivial, algebraic33, trivial, algebraic34⟩

end Cert.Proof

end
